-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v85_0)) (v1 : (c : Dev Cert.Kernel3Ideal.nD) → Buf (Elt Ideal) ((c.tc : Thread Cert.Kernel3Ideal.nD Cert.Kernel3Ideal.τ).loc Cert.Kernel3Ideal.main_v85_1)) (v2 : (c : Dev Cert.Kernel3Ideal.nD) → Buf (Elt Ideal) ((c.tc : Thread Cert.Kernel3Ideal.nD Cert.Kernel3Ideal.τ).loc Cert.Kernel3Ideal.main_v85_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v85_0) = v0 c
          ∧ r.2.mem ((c.tc : Thread Cert.Kernel3Ideal.nD Cert.Kernel3Ideal.τ).loc Cert.Kernel3Ideal.main_v85_1) = v1 c
          ∧ r.2.mem ((c.tc : Thread Cert.Kernel3Ideal.nD Cert.Kernel3Ideal.τ).loc Cert.Kernel3Ideal.main_v85_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v99) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16x2048x1664 : Shape := ⟨3, ![16, 2048, 1664]⟩
abbrev S2x16x256 : Shape := ⟨3, ![2, 16, 256]⟩
abbrev S2x256 : Shape := ⟨2, ![2, 256]⟩
abbrev S16x2048x2048 : Shape := ⟨3, ![16, 2048, 2048]⟩
abbrev S16x256x512 : Shape := ⟨3, ![16, 256, 512]⟩
abbrev S16x16384x128 : Shape := ⟨3, ![16, 16384, 128]⟩
abbrev S16x2048x1536 : Shape := ⟨3, ![16, 2048, 1536]⟩
abbrev S512 : Shape := ⟨1, ![512]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S64 : Shape := ⟨1, ![64]⟩
abbrev S64x1 : Shape := ⟨2, ![64, 1]⟩
abbrev S64x512 : Shape := ⟨2, ![64, 512]⟩
abbrev S2x128x256 : Shape := ⟨3, ![2, 128, 256]⟩
abbrev S1 : Shape := ⟨1, ![1]⟩
abbrev S2x1x256 : Shape := ⟨3, ![2, 1, 256]⟩
abbrev S16x2048x512 : Shape := ⟨3, ![16, 2048, 512]⟩
abbrev S1x512x1664 : Shape := ⟨3, ![1, 512, 1664]⟩
abbrev S1x128x256 : Shape := ⟨3, ![1, 128, 256]⟩
abbrev S1x1x256 : Shape := ⟨3, ![1, 1, 256]⟩
abbrev S1x512x512 : Shape := ⟨3, ![1, 512, 512]⟩
abbrev S1x64x512 : Shape := ⟨3, ![1, 64, 512]⟩
abbrev S1x4096x128 : Shape := ⟨3, ![1, 4096, 128]⟩
abbrev S2x8x64x256 : Shape := ⟨4, ![2, 8, 64, 256]⟩
abbrev S2x8x64x512 : Shape := ⟨4, ![2, 8, 64, 512]⟩
abbrev S2x64x256 : Shape := ⟨3, ![2, 64, 256]⟩
abbrev S2x2x128x128 : Shape := ⟨4, ![2, 2, 128, 128]⟩
abbrev S2x8x4x128x128 : Shape := ⟨5, ![2, 8, 4, 128, 128]⟩
abbrev S2x8x4x128x256 : Shape := ⟨5, ![2, 8, 4, 128, 256]⟩
abbrev S2x4x128x128 : Shape := ⟨4, ![2, 4, 128, 128]⟩
abbrev S64x128 : Shape := ⟨2, ![64, 128]⟩
abbrev S128x128 : Shape := ⟨2, ![128, 128]⟩
abbrev S256x128 : Shape := ⟨2, ![256, 128]⟩
abbrev S1x64x128 : Shape := ⟨3, ![1, 64, 128]⟩
abbrev S1x128x128 : Shape := ⟨3, ![1, 128, 128]⟩
abbrev S128x256 : Shape := ⟨2, ![128, 256]⟩
abbrev S1x256 : Shape := ⟨2, ![1, 256]⟩
abbrev S512x1664 : Shape := ⟨2, ![512, 1664]⟩
abbrev S512x256 : Shape := ⟨2, ![512, 256]⟩
abbrev S512x128 : Shape := ⟨2, ![512, 128]⟩
abbrev S1x1x64x512 : Shape := ⟨4, ![1, 1, 64, 512]⟩
abbrev S1x1x1x128x256 : Shape := ⟨5, ![1, 1, 1, 128, 256]⟩
abbrev S64x256 : Shape := ⟨2, ![64, 256]⟩
abbrev S1x64x256 : Shape := ⟨3, ![1, 64, 256]⟩
abbrev S1x1x1x128x128 : Shape := ⟨5, ![1, 1, 1, 128, 128]⟩
abbrev S1x1x64x256 : Shape := ⟨4, ![1, 1, 64, 256]⟩
abbrev S1x1x64x128 : Shape := ⟨4, ![1, 1, 64, 128]⟩
abbrev S1x1x128x128 : Shape := ⟨4, ![1, 1, 128, 128]⟩
abbrev S1x1x128 : Shape := ⟨3, ![1, 1, 128]⟩
abbrev S1x128 : Shape := ⟨2, ![1, 128]⟩

abbrev nBuf : Space → Nat
  | .hbm => 170
  | .vmem => 56
  | .smem => 0
  | _ => 0

abbrev hbmTy0_0 (i : Nat) : BufTy := match i % 128 with
  | 0 => ⟨S16x2048x1664, .bf16⟩
  | 1 => ⟨S2x16x256, .f32⟩
  | 2 => ⟨S2x256, .f32⟩
  | 3 => ⟨S2x16x256, .f32⟩
  | 4 => ⟨S2x256, .f32⟩
  | 5 => ⟨S16x2048x2048, .bf16⟩
  | 6 => ⟨S16x256x512, .f32⟩
  | 7 => ⟨S16x16384x128, .bf16⟩
  | 8 => ⟨S16x2048x2048, .bf16⟩
  | 9 => ⟨S16x256x512, .f32⟩
  | 10 => ⟨S16x16384x128, .bf16⟩
  | 11 => ⟨S16x2048x1536, .bf16⟩
  | 12 => ⟨S512, .i32⟩
  | 13 => ⟨S1x512, .i32⟩
  | 14 => ⟨S_, .i32⟩
  | 15 => ⟨S_, .i32⟩
  | 16 => ⟨S1x512, .i32⟩
  | 17 => ⟨S1x512, .i32⟩
  | 18 => ⟨S1x512, .i32⟩
  | 19 => ⟨S_, .i32⟩
  | 20 => ⟨S1x512, .i32⟩
  | 21 => ⟨S1x512, .i1⟩
  | 22 => ⟨S1x512, .i32⟩
  | 23 => ⟨S1x512, .i32⟩
  | 24 => ⟨S_, .i32⟩
  | 25 => ⟨S1x512, .i32⟩
  | 26 => ⟨S1x512, .i1⟩
  | 27 => ⟨S1x512, .i1⟩
  | 28 => ⟨S_, .i32⟩
  | 29 => ⟨S1x512, .i32⟩
  | 30 => ⟨S1x512, .i32⟩
  | 31 => ⟨S1x512, .i32⟩
  | 32 => ⟨S512x1, .i32⟩
  | 33 => ⟨S_, .i32⟩
  | 34 => ⟨S_, .i32⟩
  | 35 => ⟨S512x1, .i32⟩
  | 36 => ⟨S512x1, .i32⟩
  | 37 => ⟨S512x1, .i32⟩
  | 38 => ⟨S_, .i32⟩
  | 39 => ⟨S512x1, .i32⟩
  | 40 => ⟨S512x1, .i1⟩
  | 41 => ⟨S512x1, .i32⟩
  | 42 => ⟨S512x1, .i32⟩
  | 43 => ⟨S_, .i32⟩
  | 44 => ⟨S512x1, .i32⟩
  | 45 => ⟨S512x1, .i1⟩
  | 46 => ⟨S512x1, .i1⟩
  | 47 => ⟨S_, .i32⟩
  | 48 => ⟨S512x1, .i32⟩
  | 49 => ⟨S512x1, .i32⟩
  | 50 => ⟨S512x1, .i32⟩
  | 51 => ⟨S512x512, .i32⟩
  | 52 => ⟨S512x512, .i32⟩
  | 53 => ⟨S512x512, .i1⟩
  | 54 => ⟨S1x512, .i32⟩
  | 55 => ⟨S512x1, .i32⟩
  | 56 => ⟨S512x512, .i32⟩
  | 57 => ⟨S512x512, .i32⟩
  | 58 => ⟨S512x512, .i1⟩
  | 59 => ⟨S512x512, .i1⟩
  | 60 => ⟨S512x512, .bf16⟩
  | 61 => ⟨S512, .i32⟩
  | 62 => ⟨S1x512, .i32⟩
  | 63 => ⟨S_, .i32⟩
  | 64 => ⟨S_, .i32⟩
  | 65 => ⟨S1x512, .i32⟩
  | 66 => ⟨S1x512, .i32⟩
  | 67 => ⟨S1x512, .i32⟩
  | 68 => ⟨S_, .i32⟩
  | 69 => ⟨S1x512, .i32⟩
  | 70 => ⟨S1x512, .i1⟩
  | 71 => ⟨S1x512, .i32⟩
  | 72 => ⟨S1x512, .i32⟩
  | 73 => ⟨S_, .i32⟩
  | 74 => ⟨S1x512, .i32⟩
  | 75 => ⟨S1x512, .i1⟩
  | 76 => ⟨S1x512, .i1⟩
  | 77 => ⟨S_, .i32⟩
  | 78 => ⟨S1x512, .i32⟩
  | 79 => ⟨S1x512, .i32⟩
  | 80 => ⟨S1x512, .i32⟩
  | 81 => ⟨S512x1, .i32⟩
  | 82 => ⟨S_, .i32⟩
  | 83 => ⟨S_, .i32⟩
  | 84 => ⟨S512x1, .i32⟩
  | 85 => ⟨S512x1, .i32⟩
  | 86 => ⟨S512x1, .i32⟩
  | 87 => ⟨S_, .i32⟩
  | 88 => ⟨S512x1, .i32⟩
  | 89 => ⟨S512x1, .i1⟩
  | 90 => ⟨S512x1, .i32⟩
  | 91 => ⟨S512x1, .i32⟩
  | 92 => ⟨S_, .i32⟩
  | 93 => ⟨S512x1, .i32⟩
  | 94 => ⟨S512x1, .i1⟩
  | 95 => ⟨S512x1, .i1⟩
  | 96 => ⟨S_, .i32⟩
  | 97 => ⟨S512x1, .i32⟩
  | 98 => ⟨S512x1, .i32⟩
  | 99 => ⟨S512x1, .i32⟩
  | 100 => ⟨S512x512, .i32⟩
  | 101 => ⟨S512x512, .i32⟩
  | 102 => ⟨S512x512, .i1⟩
  | 103 => ⟨S1x512, .i32⟩
  | 104 => ⟨S512x1, .i32⟩
  | 105 => ⟨S512x512, .i32⟩
  | 106 => ⟨S512x512, .i32⟩
  | 107 => ⟨S512x512, .i1⟩
  | 108 => ⟨S512x512, .i1⟩
  | 109 => ⟨S512x512, .bf16⟩
  | 110 => ⟨S64, .i32⟩
  | 111 => ⟨S64x1, .i32⟩
  | 112 => ⟨S_, .i32⟩
  | 113 => ⟨S_, .i32⟩
  | 114 => ⟨S64x1, .i32⟩
  | 115 => ⟨S64x1, .i32⟩
  | 116 => ⟨S64x1, .i32⟩
  | 117 => ⟨S_, .i32⟩
  | 118 => ⟨S64x1, .i32⟩
  | 119 => ⟨S64x1, .i1⟩
  | 120 => ⟨S64x1, .i32⟩
  | 121 => ⟨S64x1, .i32⟩
  | 122 => ⟨S_, .i32⟩
  | 123 => ⟨S64x1, .i32⟩
  | 124 => ⟨S64x1, .i1⟩
  | 125 => ⟨S64x1, .i1⟩
  | 126 => ⟨S_, .i32⟩
  | 127 => ⟨S64x1, .i32⟩
  | _ => ⟨S16x2048x1664, .bf16⟩

abbrev hbmTy0_1 (i : Nat) : BufTy := match i % 128 with
  | 0 => ⟨S64x1, .i32⟩
  | 1 => ⟨S64x1, .i32⟩
  | 2 => ⟨S512, .i32⟩
  | 3 => ⟨S1x512, .i32⟩
  | 4 => ⟨S_, .i32⟩
  | 5 => ⟨S_, .i32⟩
  | 6 => ⟨S1x512, .i32⟩
  | 7 => ⟨S1x512, .i32⟩
  | 8 => ⟨S1x512, .i32⟩
  | 9 => ⟨S_, .i32⟩
  | 10 => ⟨S1x512, .i32⟩
  | 11 => ⟨S1x512, .i1⟩
  | 12 => ⟨S1x512, .i32⟩
  | 13 => ⟨S1x512, .i32⟩
  | 14 => ⟨S_, .i32⟩
  | 15 => ⟨S1x512, .i32⟩
  | 16 => ⟨S1x512, .i1⟩
  | 17 => ⟨S1x512, .i1⟩
  | 18 => ⟨S_, .i32⟩
  | 19 => ⟨S1x512, .i32⟩
  | 20 => ⟨S1x512, .i32⟩
  | 21 => ⟨S1x512, .i32⟩
  | 22 => ⟨S64x512, .i32⟩
  | 23 => ⟨S64x512, .i32⟩
  | 24 => ⟨S64x512, .i1⟩
  | 25 => ⟨S64x512, .bf16⟩
  | 26 => ⟨S_, .f32⟩
  | 27 => ⟨S2x128x256, .f32⟩
  | 28 => ⟨S_, .i32⟩
  | 29 => ⟨S1, .i32⟩
  | 30 => ⟨S2x128x256, .f32⟩
  | 31 => ⟨S2x1x256, .f32⟩
  | 32 => ⟨S_, .f32⟩
  | 33 => ⟨S2x128x256, .f32⟩
  | 34 => ⟨S_, .i32⟩
  | 35 => ⟨S1, .i32⟩
  | 36 => ⟨S2x128x256, .f32⟩
  | 37 => ⟨S2x1x256, .f32⟩
  | 38 => ⟨S16x2048x512, .bf16⟩
  | 39 => ⟨S16x2048x512, .bf16⟩
  | 40 => ⟨S16x2048x512, .bf16⟩
  | 41 => ⟨S16x2048x512, .bf16⟩
  | _ => ⟨S16x2048x1664, .bf16⟩

abbrev hbmTy (i : Nat) : BufTy := match i / 128 with
  | 0 => hbmTy0_0 i
  | 1 => hbmTy0_1 i
  | _ => ⟨S16x2048x1664, .bf16⟩

abbrev bufTy : (tb : Table) → Fin (tcTables nBuf tb) → BufTy
  | .hbm, ⟨i, _⟩ => hbmTy i
  | .local _ .vmem, ⟨0, _⟩ => ⟨S1x512x1664, .bf16⟩
  | .local _ .vmem, ⟨1, _⟩ => ⟨S1x512x1664, .bf16⟩
  | .local _ .vmem, ⟨2, _⟩ => ⟨S1x512x1664, .bf16⟩
  | .local _ .vmem, ⟨3, _⟩ => ⟨S1x512x1664, .bf16⟩
  | .local _ .vmem, ⟨4, _⟩ => ⟨S1x128x256, .f32⟩
  | .local _ .vmem, ⟨5, _⟩ => ⟨S1x1x256, .f32⟩
  | .local _ .vmem, ⟨6, _⟩ => ⟨S1x128x256, .f32⟩
  | .local _ .vmem, ⟨7, _⟩ => ⟨S1x1x256, .f32⟩
  | .local _ .vmem, ⟨8, _⟩ => ⟨S512x512, .bf16⟩
  | .local _ .vmem, ⟨9, _⟩ => ⟨S512x512, .bf16⟩
  | .local _ .vmem, ⟨10, _⟩ => ⟨S64x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x64x512, .f32⟩
  | .local _ .vmem, ⟨22, _⟩ => ⟨S1x64x512, .f32⟩
  | .local _ .vmem, ⟨23, _⟩ => ⟨S1x4096x128, .bf16⟩
  | .local _ .vmem, ⟨24, _⟩ => ⟨S1x4096x128, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | .local _ .vmem, ⟨34, _⟩ => ⟨S1x512x512, .bf16⟩
  | .local _ .vmem, ⟨35, _⟩ => ⟨S1x64x512, .f32⟩
  | .local _ .vmem, ⟨36, _⟩ => ⟨S1x64x512, .f32⟩
  | .local _ .vmem, ⟨37, _⟩ => ⟨S1x4096x128, .bf16⟩
  | .local _ .vmem, ⟨38, _⟩ => ⟨S1x4096x128, .bf16⟩
  | .local _ .vmem, ⟨39, _⟩ => ⟨S1x512x512, .bf16⟩
  | .local _ .vmem, ⟨40, _⟩ => ⟨S1x512x512, .bf16⟩
  | .local _ .vmem, ⟨41, _⟩ => ⟨S1x512x512, .bf16⟩
  | .local _ .vmem, ⟨42, _⟩ => ⟨S1x512x512, .bf16⟩
  | .local _ .vmem, ⟨43, _⟩ => ⟨S1x512x512, .bf16⟩
  | .local _ .vmem, ⟨44, _⟩ => ⟨S1x512x512, .bf16⟩
  | .local _ .vmem, ⟨45, _⟩ => ⟨S1x512x512, .bf16⟩
  | .local _ .vmem, ⟨46, _⟩ => ⟨S1x512x512, .bf16⟩
  | .local _ .vmem, ⟨47, _⟩ => ⟨S2x8x64x256, .f32⟩
  | .local _ .vmem, ⟨48, _⟩ => ⟨S2x8x64x256, .f32⟩
  | .local _ .vmem, ⟨49, _⟩ => ⟨S2x8x64x512, .f32⟩
  | .local _ .vmem, ⟨50, _⟩ => ⟨S2x64x256, .f32⟩
  | .local _ .vmem, ⟨51, _⟩ => ⟨S2x2x128x128, .f32⟩
  | .local _ .vmem, ⟨52, _⟩ => ⟨S2x8x4x128x128, .bf16⟩
  | .local _ .vmem, ⟨53, _⟩ => ⟨S2x8x4x128x256, .bf16⟩
  | .local _ .vmem, ⟨54, _⟩ => ⟨S2x8x4x128x128, .f32⟩
  | .local _ .vmem, ⟨55, _⟩ => ⟨S2x4x128x128, .f32⟩
  | _, _ => ⟨S16x2048x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v2 : Ref sig .tc := ⟨.hbm, 31, rfl⟩
abbrev main_v3 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_c_1 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_c : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_0 : Ref sig .tc := ⟨.hbm, 77, rfl⟩
abbrev main_call2_v12 : Ref sig .tc := ⟨.hbm, 78, rfl⟩
abbrev main_call2_v13 : Ref sig .tc := ⟨.hbm, 79, rfl⟩
abbrev main_v17 : Ref sig .tc := ⟨.hbm, 80, rfl⟩
abbrev main_v18 : Ref sig .tc := ⟨.hbm, 81, rfl⟩
abbrev main_c_2 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_c_3 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_c : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_0 : Ref sig .tc := ⟨.hbm, 126, rfl⟩
abbrev main_call4_v12 : Ref sig .tc := ⟨.hbm, 127, rfl⟩
abbrev main_call4_v13 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_c_4 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_v6 : Ref sig .tc := ⟨.hbm, 139, rfl⟩
abbrev main_call5_v7 : Ref sig .tc := ⟨.hbm, 140, rfl⟩
abbrev main_call5_v8 : Ref sig .tc := ⟨.hbm, 141, rfl⟩
abbrev main_call5_c : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_0 : Ref sig .tc := ⟨.hbm, 146, rfl⟩
abbrev main_call5_v12 : Ref sig .tc := ⟨.hbm, 147, rfl⟩
abbrev main_call5_v13 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_cst : Ref sig .tc := ⟨.hbm, 154, rfl⟩
abbrev main_v40 : Ref sig .tc := ⟨.hbm, 155, rfl⟩
abbrev main_c_5 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_cst_6 : Ref sig .tc := ⟨.hbm, 160, rfl⟩
abbrev main_v44 : Ref sig .tc := ⟨.hbm, 161, rfl⟩
abbrev main_c_7 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48_0 : Ref sig .tc := ⟨.hbm, 166, rfl⟩
abbrev main_v48_1 : Ref sig .tc := ⟨.hbm, 167, rfl⟩
abbrev main_v48_2 : Ref sig .tc := ⟨.hbm, 168, rfl⟩
abbrev main_v48_3 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_scratch3 : Ref sig .tc := ⟨.vmem, 50, rfl⟩
abbrev cc0_scratch4 : Ref sig .tc := ⟨.vmem, 51, rfl⟩
abbrev cc0_scratch5 : Ref sig .tc := ⟨.vmem, 52, rfl⟩
abbrev cc0_scratch6 : Ref sig .tc := ⟨.vmem, 53, rfl⟩
abbrev cc0_scratch7 : Ref sig .tc := ⟨.vmem, 54, rfl⟩
abbrev cc0_scratch8 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c1_i32 : BitVec 32 := 1#32
  let c0_i32 : BitVec 32 := 0#32
  ![arg0.toNat, v0.toNat, c1_i32.toNat]

def cc0_transform_18 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c2_i32 : BitVec 32 := 2#32
  let c0_i32 : BitVec 32 := 0#32
  ![arg0.toNat, v0.toNat, c2_i32.toNat]

def cc0_transform_19 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c3_i32_0 : BitVec 32 := 3#32
  let c0_i32 : BitVec 32 := 0#32
  ![arg0.toNat, v0.toNat, c3_i32_0.toNat]

def cc0_transform_20 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_21 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_22 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

abbrev stage0_0 : Fin 2 → Memref sig .tc .vmem S1x512x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4096x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x64x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x4096x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Kernel2.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S2x1x1024 : Shape := ⟨3, ![2, 1, 1024]⟩
abbrev S32768x1024 : Shape := ⟨2, ![32768, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S2x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S32768x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x2816, .f32⟩
  | .hbm, ⟨25, _⟩ => ⟨S1024x2816, .f32⟩
  | .hbm, ⟨26, _⟩ => ⟨S16x2048x2816, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S1x1024x2816, .f32⟩
  | .hbm, ⟨37, _⟩ => ⟨S1024x2816, .f32⟩
  | .hbm, ⟨38, _⟩ => ⟨S16x2048x2816, .f32⟩
  | .hbm, ⟨39, _⟩ => ⟨S16x2048x2816, .f32⟩
  | .hbm, ⟨40, _⟩ => ⟨S1x2816x1024, .f32⟩
  | .hbm, ⟨41, _⟩ => ⟨S2816x1024, .f32⟩
  | .hbm, ⟨42, _⟩ => ⟨S16x2048x1024, .f32⟩
  | .hbm, ⟨43, _⟩ => ⟨S_, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x1024, .f32⟩
  | .hbm, ⟨59, _⟩ => ⟨S16x2048x1024, .f32⟩
  | .hbm, ⟨60, _⟩ => ⟨S1x1x1024, .f32⟩
  | .hbm, ⟨61, _⟩ => ⟨S16x2048x1024, .f32⟩
  | .hbm, ⟨62, _⟩ => ⟨S16x2048x1024, .f32⟩
  | .hbm, ⟨63, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel3.lean ====
abbrev S16x2048x1024 : Shape := ⟨3, ![16, 2048, 1024]⟩
abbrev S2x1024 : Shape := ⟨2, ![2, 1024]⟩
abbrev S2x1024x6912 : Shape := ⟨3, ![2, 1024, 6912]⟩
abbrev S2x1760 : Shape := ⟨2, ![2, 1760]⟩
abbrev S2x512 : Shape := ⟨2, ![2, 512]⟩
abbrev S2x32x512 : Shape := ⟨3, ![2, 32, 512]⟩
abbrev S2x96x512 : Shape := ⟨3, ![2, 96, 512]⟩
abbrev S2x1024x1568 : Shape := ⟨3, ![2, 1024, 1568]⟩
abbrev S_ : Shape := ⟨0, ![]⟩
abbrev S2x1024x96 : Shape := ⟨3, ![2, 1024, 96]⟩
abbrev S2x1024x512 : Shape := ⟨3, ![2, 1024, 512]⟩
abbrev S2x1024x1760 : Shape := ⟨3, ![2, 1024, 1760]⟩
abbrev S2x1024x32 : Shape := ⟨3, ![2, 1024, 32]⟩
abbrev S2x1024x3072 : Shape := ⟨3, ![2, 1024, 3072]⟩
abbrev S2x1024x7040 : Shape := ⟨3, ![2, 1024, 7040]⟩
abbrev S2x32 : Shape := ⟨2, ![2, 32]⟩
abbrev S2x1792 : Shape := ⟨2, ![2, 1792]⟩
abbrev S2x1x1792 : Shape := ⟨3, ![2, 1, 1792]⟩
abbrev S2x1x1024 : Shape := ⟨3, ![2, 1, 1024]⟩
abbrev S2x1x512 : Shape := ⟨3, ![2, 1, 512]⟩
abbrev S2x128x512 : Shape := ⟨3, ![2, 128, 512]⟩
abbrev S1 : Shape := ⟨1, ![1]⟩
abbrev S2x128x1024 : Shape := ⟨3, ![2, 128, 1024]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S32 : Shape := ⟨1, ![32]⟩
abbrev S32x1 : Shape := ⟨2, ![32, 1]⟩
abbrev S32x256 : Shape := ⟨2, ![32, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32768x1024 : Shape := ⟨2, ![32768, 1024]⟩
abbrev S32768x1664 : Shape := ⟨2, ![32768, 1664]⟩
abbrev S32768x512 : Shape := ⟨2, ![32768, 512]⟩
abbrev S32768x3072 : Shape := ⟨2, ![32768, 3072]⟩
abbrev S32768x2048 : Shape := ⟨2, ![32768, 2048]⟩
abbrev S4096x512 : Shape := ⟨2, ![4096, 512]⟩
abbrev S262144x128 : Shape := ⟨2, ![262144, 128]⟩
abbrev S32768x1536 : Shape := ⟨2, ![32768, 1536]⟩
abbrev S512x1024 : Shape := ⟨2, ![512, 1024]⟩
abbrev S8x1024 : Shape := ⟨2, ![8, 1024]⟩
abbrev S1x1x1024 : Shape := ⟨3, ![1, 1, 1024]⟩
abbrev S1x1024x7040 : Shape := ⟨3, ![1, 1024, 7040]⟩
abbrev S1x1x1792 : Shape := ⟨3, ![1, 1, 1792]⟩
abbrev S1x1x512 : Shape := ⟨3, ![1, 1, 512]⟩
abbrev S1x128x1024 : Shape := ⟨3, ![1, 128, 1024]⟩
abbrev S1x128x512 : Shape := ⟨3, ![1, 128, 512]⟩
abbrev S512x1664 : Shape := ⟨2, ![512, 1664]⟩
abbrev S512x512 : Shape := ⟨2, ![512, 512]⟩
abbrev S512x3072 : Shape := ⟨2, ![512, 3072]⟩
abbrev S512x2048 : Shape := ⟨2, ![512, 2048]⟩
abbrev S64x512 : Shape := ⟨2, ![64, 512]⟩
abbrev S4096x128 : Shape := ⟨2, ![4096, 128]⟩
abbrev S512x1536 : Shape := ⟨2, ![512, 1536]⟩
abbrev S1x1024 : Shape := ⟨2, ![1, 1024]⟩
abbrev S16x1024 : Shape := ⟨2, ![16, 1024]⟩
abbrev S32x1024 : Shape := ⟨2, ![32, 1024]⟩
abbrev S1x1024x1792 : Shape := ⟨3, ![1, 1024, 1792]⟩
abbrev S1024x1792 : Shape := ⟨2, ![1024, 1792]⟩
abbrev S32x1792 : Shape := ⟨2, ![32, 1792]⟩
abbrev S1x1792 : Shape := ⟨2, ![1, 1792]⟩
abbrev S1x512 : Shape := ⟨2, ![1, 512]⟩
abbrev S128x1024 : Shape := ⟨2, ![128, 1024]⟩
abbrev S128x512 : Shape := ⟨2, ![128, 512]⟩
abbrev S256x1024 : Shape := ⟨2, ![256, 1024]⟩
abbrev S256x1792 : Shape := ⟨2, ![256, 1792]⟩
abbrev S8x1 : Shape := ⟨2, ![8, 1]⟩
abbrev S8x1792 : Shape := ⟨2, ![8, 1792]⟩
abbrev S248x1792 : Shape := ⟨2, ![248, 1792]⟩
abbrev S256x512 : Shape := ⟨2, ![256, 512]⟩
abbrev S256x128 : Shape := ⟨2, ![256, 128]⟩
abbrev S256x1536 : Shape := ⟨2, ![256, 1536]⟩
abbrev S1x1024x512 : Shape := ⟨3, ![1, 1024, 512]⟩
abbrev S1024x512 : Shape := ⟨2, ![1024, 512]⟩
abbrev S256x3072 : Shape := ⟨2, ![256, 3072]⟩
abbrev S32x512 : Shape := ⟨2, ![32, 512]⟩
abbrev S256x2048 : Shape := ⟨2, ![256, 2048]⟩
abbrev S256x1664 : Shape := ⟨2, ![256, 1664]⟩
abbrev S512x128 : Shape := ⟨2, ![512, 128]⟩
abbrev S2048x128 : Shape := ⟨2, ![2048, 128]⟩
abbrev S1x1024x128 : Shape := ⟨3, ![1, 1024, 128]⟩
abbrev S1024x128 : Shape := ⟨2, ![1024, 128]⟩

abbrev nBuf : Space → Nat
  | .hbm => 243
  | .vmem => 43
  | .smem => 0
  | _ => 0

abbrev hbmTy0_0 (i : Nat) : BufTy := match i % 128 with
  | 0 => ⟨S16x2048x1024, .f32⟩
  | 1 => ⟨S2x1024, .f32⟩
  | 2 => ⟨S2x1024x6912, .f32⟩
  | 3 => ⟨S2x1760, .f32⟩
  | 4 => ⟨S2x512, .f32⟩
  | 5 => ⟨S2x32x512, .f32⟩
  | 6 => ⟨S2x512, .f32⟩
  | 7 => ⟨S2x32x512, .f32⟩
  | 8 => ⟨S2x512, .f32⟩
  | 9 => ⟨S2x32x512, .f32⟩
  | 10 => ⟨S2x512, .f32⟩
  | 11 => ⟨S2x32x512, .f32⟩
  | 12 => ⟨S2x96x512, .f32⟩
  | 13 => ⟨S2x512, .f32⟩
  | 14 => ⟨S2x512, .f32⟩
  | 15 => ⟨S2x512, .f32⟩
  | 16 => ⟨S2x1024x1568, .f32⟩
  | 17 => ⟨S_, .f32⟩
  | 18 => ⟨S2x1024x96, .f32⟩
  | 19 => ⟨S2x1024x512, .f32⟩
  | 20 => ⟨S2x1024x1760, .f32⟩
  | 21 => ⟨S_, .f32⟩
  | 22 => ⟨S2x1024x32, .f32⟩
  | 23 => ⟨S2x1024x3072, .f32⟩
  | 24 => ⟨S2x1024x7040, .f32⟩
  | 25 => ⟨S2x1024x7040, .bf16⟩
  | 26 => ⟨S_, .f32⟩
  | 27 => ⟨S2x32, .f32⟩
  | 28 => ⟨S2x1792, .f32⟩
  | 29 => ⟨S2x1x1792, .f32⟩
  | 30 => ⟨S2x1x1024, .f32⟩
  | 31 => ⟨S2x1x512, .f32⟩
  | 32 => ⟨S2x1x512, .f32⟩
  | 33 => ⟨S2x1x512, .f32⟩
  | 34 => ⟨S2x1x512, .f32⟩
  | 35 => ⟨S_, .f32⟩
  | 36 => ⟨S2x128x512, .f32⟩
  | 37 => ⟨S_, .i32⟩
  | 38 => ⟨S1, .i32⟩
  | 39 => ⟨S2x128x512, .f32⟩
  | 40 => ⟨S_, .f32⟩
  | 41 => ⟨S2x128x512, .f32⟩
  | 42 => ⟨S_, .i32⟩
  | 43 => ⟨S1, .i32⟩
  | 44 => ⟨S2x128x512, .f32⟩
  | 45 => ⟨S2x128x1024, .f32⟩
  | 46 => ⟨S_, .f32⟩
  | 47 => ⟨S2x128x512, .f32⟩
  | 48 => ⟨S_, .i32⟩
  | 49 => ⟨S1, .i32⟩
  | 50 => ⟨S2x128x512, .f32⟩
  | 51 => ⟨S_, .f32⟩
  | 52 => ⟨S2x128x512, .f32⟩
  | 53 => ⟨S_, .i32⟩
  | 54 => ⟨S1, .i32⟩
  | 55 => ⟨S2x128x512, .f32⟩
  | 56 => ⟨S2x128x1024, .f32⟩
  | 57 => ⟨S_, .f32⟩
  | 58 => ⟨S2x128x512, .f32⟩
  | 59 => ⟨S_, .i32⟩
  | 60 => ⟨S1, .i32⟩
  | 61 => ⟨S2x128x512, .f32⟩
  | 62 => ⟨S2x1x512, .f32⟩
  | 63 => ⟨S2x1x512, .f32⟩
  | 64 => ⟨S2x1x512, .f32⟩
  | 65 => ⟨S256, .i32⟩
  | 66 => ⟨S1x256, .i32⟩
  | 67 => ⟨S_, .i32⟩
  | 68 => ⟨S_, .i32⟩
  | 69 => ⟨S1x256, .i32⟩
  | 70 => ⟨S1x256, .i32⟩
  | 71 => ⟨S1x256, .i32⟩
  | 72 => ⟨S_, .i32⟩
  | 73 => ⟨S1x256, .i32⟩
  | 74 => ⟨S1x256, .i1⟩
  | 75 => ⟨S1x256, .i32⟩
  | 76 => ⟨S1x256, .i32⟩
  | 77 => ⟨S_, .i32⟩
  | 78 => ⟨S1x256, .i32⟩
  | 79 => ⟨S1x256, .i1⟩
  | 80 => ⟨S1x256, .i1⟩
  | 81 => ⟨S_, .i32⟩
  | 82 => ⟨S1x256, .i32⟩
  | 83 => ⟨S1x256, .i32⟩
  | 84 => ⟨S1x256, .i32⟩
  | 85 => ⟨S256x1, .i32⟩
  | 86 => ⟨S_, .i32⟩
  | 87 => ⟨S_, .i32⟩
  | 88 => ⟨S256x1, .i32⟩
  | 89 => ⟨S256x1, .i32⟩
  | 90 => ⟨S256x1, .i32⟩
  | 91 => ⟨S_, .i32⟩
  | 92 => ⟨S256x1, .i32⟩
  | 93 => ⟨S256x1, .i1⟩
  | 94 => ⟨S256x1, .i32⟩
  | 95 => ⟨S256x1, .i32⟩
  | 96 => ⟨S_, .i32⟩
  | 97 => ⟨S256x1, .i32⟩
  | 98 => ⟨S256x1, .i1⟩
  | 99 => ⟨S256x1, .i1⟩
  | 100 => ⟨S_, .i32⟩
  | 101 => ⟨S256x1, .i32⟩
  | 102 => ⟨S256x1, .i32⟩
  | 103 => ⟨S256x1, .i32⟩
  | 104 => ⟨S256x256, .i32⟩
  | 105 => ⟨S256x256, .i32⟩
  | 106 => ⟨S256x256, .i1⟩
  | 107 => ⟨S1x256, .i32⟩
  | 108 => ⟨S256x1, .i32⟩
  | 109 => ⟨S256x256, .i32⟩
  | 110 => ⟨S256x256, .i32⟩
  | 111 => ⟨S256x256, .i1⟩
  | 112 => ⟨S256x256, .i1⟩
  | 113 => ⟨S256x256, .bf16⟩
  | 114 => ⟨S256, .i32⟩
  | 115 => ⟨S1x256, .i32⟩
  | 116 => ⟨S_, .i32⟩
  | 117 => ⟨S_, .i32⟩
  | 118 => ⟨S1x256, .i32⟩
  | 119 => ⟨S1x256, .i32⟩
  | 120 => ⟨S1x256, .i32⟩
  | 121 => ⟨S_, .i32⟩
  | 122 => ⟨S1x256, .i32⟩
  | 123 => ⟨S1x256, .i1⟩
  | 124 => ⟨S1x256, .i32⟩
  | 125 => ⟨S1x256, .i32⟩
  | 126 => ⟨S_, .i32⟩
  | 127 => ⟨S1x256, .i32⟩
  | _ => ⟨S16x2048x1024, .f32⟩

abbrev hbmTy0_1 (i : Nat) : BufTy := match i % 128 with
  | 0 => ⟨S1x256, .i1⟩
  | 1 => ⟨S1x256, .i1⟩
  | 2 => ⟨S_, .i32⟩
  | 3 => ⟨S1x256, .i32⟩
  | 4 => ⟨S1x256, .i32⟩
  | 5 => ⟨S1x256, .i32⟩
  | 6 => ⟨S256x1, .i32⟩
  | 7 => ⟨S_, .i32⟩
  | 8 => ⟨S_, .i32⟩
  | 9 => ⟨S256x1, .i32⟩
  | 10 => ⟨S256x1, .i32⟩
  | 11 => ⟨S256x1, .i32⟩
  | 12 => ⟨S_, .i32⟩
  | 13 => ⟨S256x1, .i32⟩
  | 14 => ⟨S256x1, .i1⟩
  | 15 => ⟨S256x1, .i32⟩
  | 16 => ⟨S256x1, .i32⟩
  | 17 => ⟨S_, .i32⟩
  | 18 => ⟨S256x1, .i32⟩
  | 19 => ⟨S256x1, .i1⟩
  | 20 => ⟨S256x1, .i1⟩
  | 21 => ⟨S_, .i32⟩
  | 22 => ⟨S256x1, .i32⟩
  | 23 => ⟨S256x1, .i32⟩
  | 24 => ⟨S256x1, .i32⟩
  | 25 => ⟨S256x256, .i32⟩
  | 26 => ⟨S256x256, .i32⟩
  | 27 => ⟨S256x256, .i1⟩
  | 28 => ⟨S1x256, .i32⟩
  | 29 => ⟨S256x1, .i32⟩
  | 30 => ⟨S256x256, .i32⟩
  | 31 => ⟨S256x256, .i32⟩
  | 32 => ⟨S256x256, .i1⟩
  | 33 => ⟨S256x256, .i1⟩
  | 34 => ⟨S256x256, .bf16⟩
  | 35 => ⟨S32, .i32⟩
  | 36 => ⟨S32x1, .i32⟩
  | 37 => ⟨S_, .i32⟩
  | 38 => ⟨S_, .i32⟩
  | 39 => ⟨S32x1, .i32⟩
  | 40 => ⟨S32x1, .i32⟩
  | 41 => ⟨S32x1, .i32⟩
  | 42 => ⟨S_, .i32⟩
  | 43 => ⟨S32x1, .i32⟩
  | 44 => ⟨S32x1, .i1⟩
  | 45 => ⟨S32x1, .i32⟩
  | 46 => ⟨S32x1, .i32⟩
  | 47 => ⟨S_, .i32⟩
  | 48 => ⟨S32x1, .i32⟩
  | 49 => ⟨S32x1, .i1⟩
  | 50 => ⟨S32x1, .i1⟩
  | 51 => ⟨S_, .i32⟩
  | 52 => ⟨S32x1, .i32⟩
  | 53 => ⟨S32x1, .i32⟩
  | 54 => ⟨S32x1, .i32⟩
  | 55 => ⟨S256, .i32⟩
  | 56 => ⟨S1x256, .i32⟩
  | 57 => ⟨S_, .i32⟩
  | 58 => ⟨S_, .i32⟩
  | 59 => ⟨S1x256, .i32⟩
  | 60 => ⟨S1x256, .i32⟩
  | 61 => ⟨S1x256, .i32⟩
  | 62 => ⟨S_, .i32⟩
  | 63 => ⟨S1x256, .i32⟩
  | 64 => ⟨S1x256, .i1⟩
  | 65 => ⟨S1x256, .i32⟩
  | 66 => ⟨S1x256, .i32⟩
  | 67 => ⟨S_, .i32⟩
  | 68 => ⟨S1x256, .i32⟩
  | 69 => ⟨S1x256, .i1⟩
  | 70 => ⟨S1x256, .i1⟩
  | 71 => ⟨S_, .i32⟩
  | 72 => ⟨S1x256, .i32⟩
  | 73 => ⟨S1x256, .i32⟩
  | 74 => ⟨S1x256, .i32⟩
  | 75 => ⟨S32x256, .i32⟩
  | 76 => ⟨S32x256, .i32⟩
  | 77 => ⟨S32x256, .i1⟩
  | 78 => ⟨S32x256, .bf16⟩
  | 79 => ⟨S128, .i32⟩
  | 80 => ⟨S_, .i32⟩
  | 81 => ⟨S_, .i32⟩
  | 82 => ⟨S128, .i32⟩
  | 83 => ⟨S128, .i32⟩
  | 84 => ⟨S128, .i32⟩
  | 85 => ⟨S_, .i32⟩
  | 86 => ⟨S128, .i32⟩
  | 87 => ⟨S128, .i1⟩
  | 88 => ⟨S128, .i32⟩
  | 89 => ⟨S128, .i32⟩
  | 90 => ⟨S_, .i32⟩
  | 91 => ⟨S128, .i32⟩
  | 92 => ⟨S128, .i1⟩
  | 93 => ⟨S128, .i1⟩
  | 94 => ⟨S_, .i32⟩
  | 95 => ⟨S128, .i32⟩
  | 96 => ⟨S128, .i32⟩
  | 97 => ⟨S128, .i32⟩
  | 98 => ⟨S128x1, .i32⟩
  | 99 => ⟨S1x128, .i32⟩
  | 100 => ⟨S128x128, .i32⟩
  | 101 => ⟨S128x128, .i32⟩
  | 102 => ⟨S128x128, .i1⟩
  | 103 => ⟨S128x128, .bf16⟩
  | 104 => ⟨S32768x1024, .f32⟩
  | 105 => ⟨S32768x1664, .bf16⟩
  | 106 => ⟨S32768x512, .bf16⟩
  | 107 => ⟨S32768x3072, .bf16⟩
  | 108 => ⟨S32768x2048, .bf16⟩
  | 109 => ⟨S4096x512, .f32⟩
  | 110 => ⟨S262144x128, .bf16⟩
  | 111 => ⟨S32768x2048, .bf16⟩
  | 112 => ⟨S4096x512, .f32⟩
  | 113 => ⟨S262144x128, .bf16⟩
  | 114 => ⟨S32768x1536, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x1024, .f32⟩
  | .local _ .vmem, ⟨7, _⟩ => ⟨S1x1024x7040, .bf16⟩
  | .local _ .vmem, ⟨8, _⟩ => ⟨S1x1x1792, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x128x1024, .f32⟩
  | .local _ .vmem, ⟨14, _⟩ => ⟨S1x128x1024, .f32⟩
  | .local _ .vmem, ⟨15, _⟩ => ⟨S1x128x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S256x256, .bf16⟩
  | .local _ .vmem, ⟨20, _⟩ => ⟨S256x256, .bf16⟩
  | .local _ .vmem, ⟨21, _⟩ => ⟨S32x256, .bf16⟩
  | .local _ .vmem, ⟨22, _⟩ => ⟨S128x128, .bf16⟩
  | .local _ .vmem, ⟨23, _⟩ => ⟨S512x1664, .bf16⟩
  | .local _ .vmem, ⟨24, _⟩ => ⟨S512x1664, .bf16⟩
  | .local _ .vmem, ⟨25, _⟩ => ⟨S512x512, .bf16⟩
  | .local _ .vmem, ⟨26, _⟩ => ⟨S512x512, .bf16⟩
  | .local _ .vmem, ⟨27, _⟩ => ⟨S512x3072, .bf16⟩
  | .local _ .vmem, ⟨28, _⟩ => ⟨S512x3072, .bf16⟩
  | .local _ .vmem, ⟨29, _⟩ => ⟨S512x2048, .bf16⟩
  | .local _ .vmem, ⟨30, _⟩ => ⟨S512x2048, .bf16⟩
  | .local _ .vmem, ⟨31, _⟩ => ⟨S64x512, .f32⟩
  | .local _ .vmem, ⟨32, _⟩ => ⟨S64x512, .f32⟩
  | .local _ .vmem, ⟨33, _⟩ => ⟨S4096x128, .bf16⟩
  | .local _ .vmem, ⟨34, _⟩ => ⟨S4096x128, .bf16⟩
  | .local _ .vmem, ⟨35, _⟩ => ⟨S512x2048, .bf16⟩
  | .local _ .vmem, ⟨36, _⟩ => ⟨S512x2048, .bf16⟩
  | .local _ .vmem, ⟨37, _⟩ => ⟨S64x512, .f32⟩
  | .local _ .vmem, ⟨38, _⟩ => ⟨S64x512, .f32⟩
  | .local _ .vmem, ⟨39, _⟩ => ⟨S4096x128, .bf16⟩
  | .local _ .vmem, ⟨40, _⟩ => ⟨S4096x128, .bf16⟩
  | .local _ .vmem, ⟨41, _⟩ => ⟨S512x1536, .bf16⟩
  | .local _ .vmem, ⟨42, _⟩ => ⟨S512x1536, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_c_8 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_9 : Ref sig .tc := ⟨.hbm, 57, rfl⟩
abbrev main_v30 : Ref sig .tc := ⟨.hbm, 58, rfl⟩
abbrev main_c_10 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_11 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_c : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_0 : Ref sig .tc := ⟨.hbm, 81, rfl⟩
abbrev main_call0_v12 : Ref sig .tc := ⟨.hbm, 82, rfl⟩
abbrev main_call0_v13 : Ref sig .tc := ⟨.hbm, 83, rfl⟩
abbrev main_v38 : Ref sig .tc := ⟨.hbm, 84, rfl⟩
abbrev main_v39 : Ref sig .tc := ⟨.hbm, 85, rfl⟩
abbrev main_c_12 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_c : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_0 : Ref sig .tc := ⟨.hbm, 100, rfl⟩
abbrev main_call1_v12 : Ref sig .tc := ⟨.hbm, 101, rfl⟩
abbrev main_call1_v13 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_c_13 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_c : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_0 : Ref sig .tc := ⟨.hbm, 130, rfl⟩
abbrev main_call2_v12 : Ref sig .tc := ⟨.hbm, 131, rfl⟩
abbrev main_call2_v13 : Ref sig .tc := ⟨.hbm, 132, rfl⟩
abbrev main_v53 : Ref sig .tc := ⟨.hbm, 133, rfl⟩
abbrev main_v54 : Ref sig .tc := ⟨.hbm, 134, rfl⟩
abbrev main_c_14 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_c : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_0 : Ref sig .tc := ⟨.hbm, 149, rfl⟩
abbrev main_call3_v12 : Ref sig .tc := ⟨.hbm, 150, rfl⟩
abbrev main_call3_v13 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_c_15 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_v8 : Ref sig .tc := ⟨.hbm, 174, rfl⟩
abbrev main_call4_c : Ref sig .tc := ⟨.hbm, 175, rfl⟩
abbrev main_call4_v9 : Ref sig .tc := ⟨.hbm, 176, rfl⟩
abbrev main_call4_v10 : Ref sig .tc := ⟨.hbm, 177, rfl⟩
abbrev main_call4_v11 : Ref sig .tc := ⟨.hbm, 178, rfl⟩
abbrev main_call4_c_0 : Ref sig .tc := ⟨.hbm, 179, rfl⟩
abbrev main_call4_v12 : Ref sig .tc := ⟨.hbm, 180, rfl⟩
abbrev main_call4_v13 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_c_16 : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_v6 : Ref sig .tc := ⟨.hbm, 192, rfl⟩
abbrev main_call5_v7 : Ref sig .tc := ⟨.hbm, 193, rfl⟩
abbrev main_call5_v8 : Ref sig .tc := ⟨.hbm, 194, rfl⟩
abbrev main_call5_c : Ref sig .tc := ⟨.hbm, 195, rfl⟩
abbrev main_call5_v9 : Ref sig .tc := ⟨.hbm, 196, rfl⟩
abbrev main_call5_v10 : Ref sig .tc := ⟨.hbm, 197, rfl⟩
abbrev main_call5_v11 : Ref sig .tc := ⟨.hbm, 198, rfl⟩
abbrev main_call5_c_0 : Ref sig .tc := ⟨.hbm, 199, rfl⟩
abbrev main_call5_v12 : Ref sig .tc := ⟨.hbm, 200, rfl⟩
abbrev main_call5_v13 : Ref sig .tc := ⟨.hbm, 201, rfl⟩
abbrev main_v71 : Ref sig .tc := ⟨.hbm, 202, rfl⟩
abbrev main_v72 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_c_17 : Ref sig .tc := ⟨.hbm, 208, rfl⟩
abbrev main_call6_v0 : Ref sig .tc := ⟨.hbm, 209, rfl⟩
abbrev main_call6_v1 : Ref sig .tc := ⟨.hbm, 210, rfl⟩
abbrev main_call6_v2 : Ref sig .tc := ⟨.hbm, 211, rfl⟩
abbrev main_call6_v3 : Ref sig .tc := ⟨.hbm, 212, rfl⟩
abbrev main_call6_v4 : Ref sig .tc := ⟨.hbm, 213, rfl⟩
abbrev main_call6_v5 : Ref sig .tc := ⟨.hbm, 214, rfl⟩
abbrev main_call6_v6 : Ref sig .tc := ⟨.hbm, 215, rfl⟩
abbrev main_call6_v7 : Ref sig .tc := ⟨.hbm, 216, rfl⟩
abbrev main_call6_v8 : Ref sig .tc := ⟨.hbm, 217, rfl⟩
abbrev main_call6_c : Ref sig .tc := ⟨.hbm, 218, rfl⟩
abbrev main_call6_v9 : Ref sig .tc := ⟨.hbm, 219, rfl⟩
abbrev main_call6_v10 : Ref sig .tc := ⟨.hbm, 220, rfl⟩
abbrev main_call6_v11 : Ref sig .tc := ⟨.hbm, 221, rfl⟩
abbrev main_call6_c_0 : Ref sig .tc := ⟨.hbm, 222, rfl⟩
abbrev main_call6_v12 : Ref sig .tc := ⟨.hbm, 223, rfl⟩
abbrev main_call6_v13 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_v84 : Ref sig .tc := ⟨.hbm, 232, rfl⟩
abbrev main_v85_0 : Ref sig .tc := ⟨.hbm, 233, rfl⟩
abbrev main_v85_1 : Ref sig .tc := ⟨.hbm, 234, rfl⟩
abbrev main_v85_2 : Ref sig .tc := ⟨.hbm, 235, rfl⟩
abbrev main_v85_3 : Ref sig .tc := ⟨.hbm, 236, rfl⟩
abbrev main_v85_4 : Ref sig .tc := ⟨.hbm, 237, rfl⟩
abbrev main_v85_5 : Ref sig .tc := ⟨.hbm, 238, rfl⟩
abbrev main_v85_6 : Ref sig .tc := ⟨.hbm, 239, rfl⟩
abbrev main_v85_7 : Ref sig .tc := ⟨.hbm, 240, rfl⟩
abbrev main_v85_8 : Ref sig .tc := ⟨.hbm, 241, rfl⟩
abbrev main_v85_9 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_stg28_0 : Ref sig .tc := ⟨.vmem, 39, rfl⟩
abbrev cc0_stg28_1 : Ref sig .tc := ⟨.vmem, 40, rfl⟩
abbrev cc0_stg29_0 : Ref sig .tc := ⟨.vmem, 41, rfl⟩
abbrev cc0_stg29_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38
abbrev cc0_sem28_0 : DmaSem sig := 39
abbrev cc0_sem28_1 : DmaSem sig := 40
abbrev cc0_sem29_0 : DmaSem sig := 41
abbrev cc0_sem29_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x7040 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1664 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x3072 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S4096x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x2048 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S64x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S4096x128 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x1536 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== Reference3Ideal.lean ====
abbrev S16x2048x1024 : Shape := ⟨3, ![16, 2048, 1024]⟩
abbrev S2x1024 : Shape := ⟨2, ![2, 1024]⟩
abbrev S2x1024x6912 : Shape := ⟨3, ![2, 1024, 6912]⟩
abbrev S2x1760 : Shape := ⟨2, ![2, 1760]⟩
abbrev S2x512 : Shape := ⟨2, ![2, 512]⟩
abbrev S2x32x512 : Shape := ⟨3, ![2, 32, 512]⟩
abbrev S2x96x512 : Shape := ⟨3, ![2, 96, 512]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x6912 : Shape := ⟨3, ![1, 1024, 6912]⟩
abbrev S1024x6912 : Shape := ⟨2, ![1024, 6912]⟩
abbrev S16x2048x6912 : Shape := ⟨3, ![16, 2048, 6912]⟩
abbrev S32768x6912 : Shape := ⟨2, ![32768, 6912]⟩
abbrev S32768x1568 : Shape := ⟨2, ![32768, 1568]⟩
abbrev S32768x1664 : Shape := ⟨2, ![32768, 1664]⟩
abbrev S32768x512 : Shape := ⟨2, ![32768, 512]⟩
abbrev S32768x3072 : Shape := ⟨2, ![32768, 3072]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x6912, .f32⟩
  | .hbm, ⟨3, _⟩ => ⟨S2x1760, .f32⟩
  | .hbm, ⟨4, _⟩ => ⟨S2x512, .f32⟩
  | .hbm, ⟨5, _⟩ => ⟨S2x32x512, .f32⟩
  | .hbm, ⟨6, _⟩ => ⟨S2x512, .f32⟩
  | .hbm, ⟨7, _⟩ => ⟨S2x32x512, .f32⟩
  | .hbm, ⟨8, _⟩ => ⟨S2x512, .f32⟩
  | .hbm, ⟨9, _⟩ => ⟨S2x32x512, .f32⟩
  | .hbm, ⟨10, _⟩ => ⟨S2x512, .f32⟩
  | .hbm, ⟨11, _⟩ => ⟨S2x32x512, .f32⟩
  | .hbm, ⟨12, _⟩ => ⟨S2x96x512, .f32⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S1x1024, .f32⟩
  | .hbm, ⟨17, _⟩ => ⟨S1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S1x1024x6912, .f32⟩
  | .hbm, ⟨35, _⟩ => ⟨S1024x6912, .f32⟩
  | .hbm, ⟨36, _⟩ => ⟨S16x2048x6912, .f32⟩
  | .hbm, ⟨37, _⟩ => ⟨S32768x6912, .f32⟩
  | .hbm, ⟨38, _⟩ => ⟨S32768x6912, .bf16⟩
  | .hbm, ⟨39, _⟩ => ⟨S32768x1568, .bf16⟩
  | .hbm, ⟨40, _⟩ => ⟨S_, .i32⟩
  | .hbm, ⟨41, _⟩ => ⟨S_, .bf16⟩
  | .hbm, ⟨42, _⟩ => ⟨S32768x1664, .bf16⟩
  | .hbm, ⟨43, _⟩ => ⟨S32768x512, .bf16⟩
  | .hbm, ⟨44, _⟩ => ⟨S32768x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_call0_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x2048x512 : Shape := ⟨3, ![16, 2048, 512]⟩
abbrev S32768x1664 : Shape := ⟨2, ![32768, 1664]⟩
abbrev S32768x1536 : Shape := ⟨2, ![32768, 1536]⟩
abbrev S32768x3072 : Shape := ⟨2, ![32768, 3072]⟩
abbrev S2x512 : Shape := ⟨2, ![2, 512]⟩
abbrev S2x512x1024 : Shape := ⟨3, ![2, 512, 1024]⟩
abbrev S2x1024x1024 : Shape := ⟨3, ![2, 1024, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x1x512 : Shape := ⟨3, ![2, 1, 512]⟩
abbrev S32768x1024 : Shape := ⟨2, ![32768, 1024]⟩
abbrev S32768x512 : Shape := ⟨2, ![32768, 512]⟩
abbrev S512x1024 : Shape := ⟨2, ![512, 1024]⟩
abbrev S512x512 : Shape := ⟨2, ![512, 512]⟩
abbrev S512x3072 : Shape := ⟨2, ![512, 3072]⟩
abbrev S1x1x512 : Shape := ⟨3, ![1, 1, 512]⟩
abbrev S1x512x1024 : Shape := ⟨3, ![1, 512, 1024]⟩
abbrev S1x1024x1024 : Shape := ⟨3, ![1, 1024, 1024]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S1024x1024 : Shape := ⟨2, ![1024, 1024]⟩

abbrev nBuf : Space → Nat
  | .hbm => 59
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S32768x1664, .bf16⟩
  | .hbm, ⟨4, _⟩ => ⟨S16x2048x512, .bf16⟩
  | .hbm, ⟨5, _⟩ => ⟨S16x2048x512, .bf16⟩
  | .hbm, ⟨6, _⟩ => ⟨S16x2048x512, .bf16⟩
  | .hbm, ⟨7, _⟩ => ⟨S32768x1536, .bf16⟩
  | .hbm, ⟨8, _⟩ => ⟨S32768x3072, .bf16⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S2x1024x1024, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .bf16⟩
  | .hbm, ⟨45, _⟩ => ⟨S2x1x512, .f32⟩
  | .hbm, ⟨46, _⟩ => ⟨S2x1x512, .f32⟩
  | .hbm, ⟨47, _⟩ => ⟨S2x1x512, .f32⟩
  | .hbm, ⟨48, _⟩ => ⟨S2x512x1024, .bf16⟩
  | .hbm, ⟨49, _⟩ => ⟨S2x512x1024, .bf16⟩
  | .hbm, ⟨50, _⟩ => ⟨S2x512x1024, .bf16⟩
  | .hbm, ⟨51, _⟩ => ⟨S2x1024x1024, .bf16⟩
  | .hbm, ⟨52, _⟩ => ⟨S32768x1024, .f32⟩
  | .hbm, ⟨53, _⟩ => ⟨S32768x512, .bf16⟩
  | .hbm, ⟨54, _⟩ => ⟨S32768x512, .bf16⟩
  | .hbm, ⟨55, _⟩ => ⟨S32768x512, .bf16⟩
  | .hbm, ⟨56, _⟩ => ⟨S32768x512, .bf16⟩
  | .hbm, ⟨57, _⟩ => ⟨S32768x512, .bf16⟩
  | .hbm, ⟨58, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x3072, .bf16⟩
  | .local _ .vmem, ⟨19, _⟩ => ⟨S512x3072, .bf16⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S128x128, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x1024x1024, .bf16⟩
  | .local _ .vmem, ⟨28, _⟩ => ⟨S512x1024, .f32⟩
  | .local _ .vmem, ⟨29, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S16x2048x1024 : Shape := ⟨3, ![16, 2048, 1024]⟩
abbrev S16x2048x512 : Shape := ⟨3, ![16, 2048, 512]⟩
abbrev S32768x1664 : Shape := ⟨2, ![32768, 1664]⟩
abbrev S32768x1536 : Shape := ⟨2, ![32768, 1536]⟩
abbrev S32768x3072 : Shape := ⟨2, ![32768, 3072]⟩
abbrev S2x512 : Shape := ⟨2, ![2, 512]⟩
abbrev S2x512x1024 : Shape := ⟨3, ![2, 512, 1024]⟩
abbrev S2x1024x1024 : Shape := ⟨3, ![2, 1024, 1024]⟩
abbrev S32768x512 : Shape := ⟨2, ![32768, 512]⟩
abbrev S16x2048x4x128 : Shape := ⟨4, ![16, 2048, 4, 128]⟩
abbrev S_ : Shape := ⟨0, ![]⟩
abbrev S16x2048x4 : Shape := ⟨3, ![16, 2048, 4]⟩
abbrev S16x2048x4x1 : Shape := ⟨4, ![16, 2048, 4, 1]⟩
abbrev S1x512 : Shape := ⟨2, ![1, 512]⟩
abbrev S512 : Shape := ⟨1, ![512]⟩
abbrev S1x1x512 : Shape := ⟨3, ![1, 1, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S16x2048x3x1024 : Shape := ⟨4, ![16, 2048, 3, 1024]⟩
abbrev S16x2048x1x1024 : Shape := ⟨4, ![16, 2048, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 134
  | .vmem => 0
  | .smem => 0
  | _ => 0

abbrev hbmTy0_0 (i : Nat) : BufTy := match i % 128 with
  | 0 => ⟨S16x2048x1024, .f32⟩
  | 1 => ⟨S16x2048x512, .bf16⟩
  | 2 => ⟨S16x2048x512, .bf16⟩
  | 3 => ⟨S32768x1664, .bf16⟩
  | 4 => ⟨S16x2048x512, .bf16⟩
  | 5 => ⟨S16x2048x512, .bf16⟩
  | 6 => ⟨S16x2048x512, .bf16⟩
  | 7 => ⟨S32768x1536, .bf16⟩
  | 8 => ⟨S32768x3072, .bf16⟩
  | 9 => ⟨S2x512, .f32⟩
  | 10 => ⟨S2x512, .f32⟩
  | 11 => ⟨S2x512, .f32⟩
  | 12 => ⟨S2x512x1024, .f32⟩
  | 13 => ⟨S2x512x1024, .f32⟩
  | 14 => ⟨S2x512x1024, .f32⟩
  | 15 => ⟨S2x1024x1024, .f32⟩
  | 16 => ⟨S32768x512, .bf16⟩
  | 17 => ⟨S16x2048x512, .bf16⟩
  | 18 => ⟨S16x2048x512, .f32⟩
  | 19 => ⟨S16x2048x512, .f32⟩
  | 20 => ⟨S16x2048x512, .f32⟩
  | 21 => ⟨S16x2048x4x128, .f32⟩
  | 22 => ⟨S16x2048x4x128, .f32⟩
  | 23 => ⟨S_, .f32⟩
  | 24 => ⟨S16x2048x4, .f32⟩
  | 25 => ⟨S16x2048x4x1, .f32⟩
  | 26 => ⟨S_, .f32⟩
  | 27 => ⟨S16x2048x4x1, .f32⟩
  | 28 => ⟨S16x2048x4x1, .f32⟩
  | 29 => ⟨S_, .f32⟩
  | 30 => ⟨S16x2048x4x1, .f32⟩
  | 31 => ⟨S16x2048x4x1, .f32⟩
  | 32 => ⟨S16x2048x4x1, .f32⟩
  | 33 => ⟨S16x2048x4x128, .f32⟩
  | 34 => ⟨S16x2048x4x128, .f32⟩
  | 35 => ⟨S16x2048x512, .f32⟩
  | 36 => ⟨S1x512, .f32⟩
  | 37 => ⟨S512, .f32⟩
  | 38 => ⟨S1x1x512, .f32⟩
  | 39 => ⟨S16x2048x512, .f32⟩
  | 40 => ⟨S16x2048x512, .f32⟩
  | 41 => ⟨S16x2048x512, .f32⟩
  | 42 => ⟨S16x2048x512, .f32⟩
  | 43 => ⟨S16x2048x512, .f32⟩
  | 44 => ⟨S_, .f32⟩
  | 45 => ⟨S16x2048x512, .f32⟩
  | 46 => ⟨S16x2048x512, .f32⟩
  | 47 => ⟨S_, .f32⟩
  | 48 => ⟨S16x2048x512, .f32⟩
  | 49 => ⟨S16x2048x512, .f32⟩
  | 50 => ⟨S16x2048x512, .f32⟩
  | 51 => ⟨S16x2048x512, .f32⟩
  | 52 => ⟨S16x2048x512, .f32⟩
  | 53 => ⟨S32768x512, .bf16⟩
  | 54 => ⟨S32768x512, .f32⟩
  | 55 => ⟨S16x2048x512, .f32⟩
  | 56 => ⟨S32768x512, .bf16⟩
  | 57 => ⟨S32768x512, .f32⟩
  | 58 => ⟨S16x2048x512, .f32⟩
  | 59 => ⟨S16x2048x512, .f32⟩
  | 60 => ⟨S16x2048x512, .f32⟩
  | 61 => ⟨S16x2048x512, .f32⟩
  | 62 => ⟨S16x2048x8x64, .f32⟩
  | 63 => ⟨S_, .f32⟩
  | 64 => ⟨S16x2048x8, .f32⟩
  | 65 => ⟨S16x2048x8x1, .f32⟩
  | 66 => ⟨S_, .f32⟩
  | 67 => ⟨S16x2048x8x1, .f32⟩
  | 68 => ⟨S16x2048x8x1, .f32⟩
  | 69 => ⟨S16x2048x8x64, .f32⟩
  | 70 => ⟨S16x2048x8x64, .f32⟩
  | 71 => ⟨S16x2048x8x64, .f32⟩
  | 72 => ⟨S_, .f32⟩
  | 73 => ⟨S16x2048x8, .f32⟩
  | 74 => ⟨S16x2048x8x1, .f32⟩
  | 75 => ⟨S_, .f32⟩
  | 76 => ⟨S16x2048x8x1, .f32⟩
  | 77 => ⟨S16x2048x8x1, .f32⟩
  | 78 => ⟨S16x2048x8x64, .f32⟩
  | 79 => ⟨S16x2048x8x64, .f32⟩
  | 80 => ⟨S_, .f32⟩
  | 81 => ⟨S16x2048x8x1, .f32⟩
  | 82 => ⟨S16x2048x8x1, .f32⟩
  | 83 => ⟨S16x2048x8x1, .f32⟩
  | 84 => ⟨S16x2048x8x64, .f32⟩
  | 85 => ⟨S16x2048x8x64, .f32⟩
  | 86 => ⟨S16x2048x512, .f32⟩
  | 87 => ⟨S1x512, .f32⟩
  | 88 => ⟨S512, .f32⟩
  | 89 => ⟨S1x1x512, .f32⟩
  | 90 => ⟨S16x2048x512, .f32⟩
  | 91 => ⟨S16x2048x512, .f32⟩
  | 92 => ⟨S1x512, .f32⟩
  | 93 => ⟨S512, .f32⟩
  | 94 => ⟨S1x1x512, .f32⟩
  | 95 => ⟨S16x2048x512, .f32⟩
  | 96 => ⟨S16x2048x512, .f32⟩
  | 97 => ⟨S16x2048x512, .f32⟩
  | 98 => ⟨S16x2048x512, .f32⟩
  | 99 => ⟨S32768x3072, .f32⟩
  | 100 => ⟨S32768x3072, .f32⟩
  | 101 => ⟨S32768x3072, .f32⟩
  | 102 => ⟨S_, .f32⟩
  | 103 => ⟨S32768x3072, .f32⟩
  | 104 => ⟨S32768x3072, .f32⟩
  | 105 => ⟨S_, .f32⟩
  | 106 => ⟨S32768x3072, .f32⟩
  | 107 => ⟨S32768x3072, .f32⟩
  | 108 => ⟨S16x2048x3x1024, .f32⟩
  | 109 => ⟨S16x2048x1x1024, .f32⟩
  | 110 => ⟨S16x2048x1024, .f32⟩
  | 111 => ⟨S1x512x1024, .f32⟩
  | 112 => ⟨S512x1024, .f32⟩
  | 113 => ⟨S16x2048x1024, .f32⟩
  | 114 => ⟨S16x2048x1024, .f32⟩
  | 115 => ⟨S16x2048x1x1024, .f32⟩
  | 116 => ⟨S16x2048x1024, .f32⟩
  | 117 => ⟨S1x512x1024, .f32⟩
  | 118 => ⟨S512x1024, .f32⟩
  | 119 => ⟨S16x2048x1024, .f32⟩
  | 120 => ⟨S16x2048x1024, .f32⟩
  | 121 => ⟨S16x2048x1024, .f32⟩
  | 122 => ⟨S16x2048x1x1024, .f32⟩
  | 123 => ⟨S16x2048x1024, .f32⟩
  | 124 => ⟨S1x512x1024, .f32⟩
  | 125 => ⟨S512x1024, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S1x1024x1024, .f32⟩
  | 2 => ⟨S1024x1024, .f32⟩
  | 3 => ⟨S16x2048x1024, .f32⟩
  | 4 => ⟨S16x2048x1024, .f32⟩
  | 5 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_2 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_7 : Ref sig .tc := ⟨.hbm, 102, rfl⟩
abbrev main_v70 : Ref sig .tc := ⟨.hbm, 103, rfl⟩
abbrev main_v71 : Ref sig .tc := ⟨.hbm, 104, rfl⟩
abbrev main_cst_8 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S2x1x1024 : Shape := ⟨3, ![2, 1, 1024]⟩
abbrev S32768x1024 : Shape := ⟨2, ![32768, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S2x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S32768x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x2816, .f32⟩
  | .hbm, ⟨25, _⟩ => ⟨S1024x2816, .f32⟩
  | .hbm, ⟨26, _⟩ => ⟨S16x2048x2816, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S1x1024x2816, .f32⟩
  | .hbm, ⟨37, _⟩ => ⟨S1024x2816, .f32⟩
  | .hbm, ⟨38, _⟩ => ⟨S16x2048x2816, .f32⟩
  | .hbm, ⟨39, _⟩ => ⟨S16x2048x2816, .f32⟩
  | .hbm, ⟨40, _⟩ => ⟨S1x2816x1024, .f32⟩
  | .hbm, ⟨41, _⟩ => ⟨S2816x1024, .f32⟩
  | .hbm, ⟨42, _⟩ => ⟨S16x2048x1024, .f32⟩
  | .hbm, ⟨43, _⟩ => ⟨S_, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Proof.Ffn.Spec.lean ====
/-
  The feed-forward layer on one row, over the extended reals, and the one law that the kernel needs of
  it: half the hyperbolic tangent of half of `x`, plus a half, is the logistic function of `x`, at every extended real.
-/
module

public import Idealize.ShloMosaic.Lib.Pointwise

@[expose] public section

noncomputable section

namespace Cert.FfnSpec

open Idealize.ShloMosaic

/-- The constant one half as the programs write it. -/
abbrev half : EReal := Ideal.ofBits .f32 0x3F000000#32

theorem half_eq : half = ((1 / 2 : ℝ) : EReal) := by
  simp [half, Ideal.ofBits, Ideal.ieee, -EReal.coe_mul]; norm_num

/-- A row `x` divided by the root of its mean square (plus the constant 1e-6), times the gain `g`. -/
def rmsn (x g : Fin 1024 → EReal) (l : Fin 1024) : EReal :=
  x l * Ideal.rsqrt (Ideal.div (∑ k, x k * x k) (Ideal.ofBits .f32 0x44800000#32) + Ideal.ofBits .f32 0x358637BD#32) * g l

/-- A row `x` plus half the gated feed-forward image of the row `h`. -/
def mid (x h : Fin 1024 → EReal) (wg wu : Fin 1024 → Fin 2816 → EReal) (wd : Fin 2816 → Fin 1024 → EReal) (l : Fin 1024) : EReal :=
  x l + half * ∑ f, ((∑ k, h k * wg k f) * Ideal.logistic (∑ k, h k * wg k f) * (∑ k, h k * wu k f)) * wd f l

/-- The layer on a row: normalised, through the feed-forward, added back, and normalised again. -/
def row (x g : Fin 1024 → EReal) (wg wu : Fin 1024 → Fin 2816 → EReal) (wd : Fin 2816 → Fin 1024 → EReal) (fg : Fin 1024 → EReal) : Fin 1024 → EReal :=
  rmsn (mid x (rmsn x g) wg wu wd) fg

/-- Equal rows, weights and gains give equal results. -/
theorem row_congr {x x' g g' fg fg' : Fin 1024 → EReal} {wg wg' wu wu' : Fin 1024 → Fin 2816 → EReal} {wd wd' : Fin 2816 → Fin 1024 → EReal} {l l' : Fin 1024}
    (hx : ∀ k, x k = x' k) (hg : ∀ k, g k = g' k) (hwg : ∀ k f, wg k f = wg' k f) (hwu : ∀ k f, wu k f = wu' k f) (hwd : ∀ f k, wd f k = wd' f k)
    (hfg : ∀ k, fg k = fg' k) (hl : l = l') : row x g wg wu wd fg l = row x' g' wg' wu' wd' fg' l' := by
  rw [funext hx, funext hg, funext fun k => funext (hwg k), funext fun k => funext (hwu k), funext fun k => funext (hwd k), funext hfg, hl]

/-- The layer without the second normalisation, -/
def layer (x g : Fin 1024 → EReal) (wg wu : Fin 1024 → Fin 2816 → EReal) (wd : Fin 2816 → Fin 1024 → EReal) : Fin 1024 → EReal :=
  mid x (rmsn x g) wg wu wd

/-- which too has equal results at equal rows, weights and gains. -/
theorem layer_congr {x x' g g' : Fin 1024 → EReal} {wg wg' wu wu' : Fin 1024 → Fin 2816 → EReal} {wd wd' : Fin 2816 → Fin 1024 → EReal} {l l' : Fin 1024}
    (hx : ∀ k, x k = x' k) (hg : ∀ k, g k = g' k) (hwg : ∀ k f, wg k f = wg' k f) (hwu : ∀ k f, wu k f = wu' k f) (hwd : ∀ f k, wd f k = wd' f k)
    (hl : l = l') : layer x g wg wu wd l = layer x' g' wg' wu' wd' l' := by
  rw [funext hx, funext hg, funext fun k => funext (hwg k), funext fun k => funext (hwu k), funext fun k => funext (hwd k), hl]

/-- The kernel's gate is the reference's, at every extended real. -/
theorem gate_eq (x : EReal) : half * Ideal.tanh (half * x) + half = Ideal.logistic x := by
  rw [half_eq]
  induction x with
  | bot =>
    have h : ((1 / 2 : ℝ) : EReal) * ⊥ = ⊥ := EReal.coe_mul_bot_of_pos (by norm_num)
    rw [h]
    simp only [Ideal.logistic, Ideal.tanh_bot, Ideal.exp_top, EReal.neg_bot]
    rw [show (-1 : EReal) = ((-1 : ℝ) : EReal) from rfl, ← EReal.coe_mul, ← EReal.coe_add]
    simp [Ideal.div, show (1 : EReal) + ⊤ = ⊤ from rfl]
  | top =>
    have h : ((1 / 2 : ℝ) : EReal) * ⊤ = ⊤ := EReal.coe_mul_top_of_pos (by norm_num)
    rw [h]
    simp only [Ideal.logistic, Ideal.tanh_top, Ideal.exp_bot, EReal.neg_top]
    rw [show (1 : EReal) = ((1 : ℝ) : EReal) from rfl, ← EReal.coe_mul, ← EReal.coe_add]
    norm_num [Ideal.div]
  | coe r =>
    have hp : (0 : ℝ) < 1 + Real.exp (-r) := by positivity
    rw [← EReal.coe_mul]
    simp only [Ideal.logistic, Ideal.tanh_coe]
    rw [← EReal.coe_neg]
    rw [Ideal.exp_coe]
    rw [show (1 : EReal) = ((1 : ℝ) : EReal) from rfl, ← EReal.coe_add, Ideal.div, if_neg (by
      rw [← EReal.coe_zero]; exact fun h => hp.ne' (EReal.coe_eq_coe_iff.mp h)), ← EReal.coe_inv, ← EReal.coe_mul, ← EReal.coe_mul, ← EReal.coe_add]
    congr 1
    rw [Real.tanh_eq_sinh_div_cosh, Real.sinh_eq, Real.cosh_eq]
    have e1 : Real.exp (1 / 2 * r) = Real.exp (r / 2) := by congr 1; ring
    have e2 : Real.exp (-(1 / 2 * r)) = Real.exp (-(r / 2)) := by congr 1; ring
    have e3 : Real.exp (-r) = Real.exp (-(r / 2)) * Real.exp (-(r / 2)) := by rw [← Real.exp_add]; congr 1; ring
    have e4 : Real.exp (r / 2) * Real.exp (-(r / 2)) = 1 := by rw [← Real.exp_add]; simp
    rw [e1, e2, e3]
    have ha := Real.exp_pos (r / 2)
    have hb := Real.exp_pos (-(r / 2))
    generalize Real.exp (r / 2) = a at *
    generalize Real.exp (-(r / 2)) = b at *
    field_simp
    nlinarith [e4]

end Cert.FfnSpec

end
-- ==== Proof.Ffn.Kernel.lean ====
/-
  What the feed-forward call leaves: a tile of 512 tokens, in its two halves, is row by row the normed sum of the token and
  the layer's output.
-/
module

public import proofs.«01_k».proof.Proof.Gen.Kernel2Ideal.Value
public import Idealize.ShloMosaic.Lib.Pipeline.ValueKit
public import Idealize.ShloMosaic.Lib.Pointwise
public import proofs.«01_k».proof.Proof.Ffn.Spec

@[expose] public section
set_option maxRecDepth 16384
noncomputable section
namespace Cert.Kernel2Ideal.Value
open Cert.Kernel2Ideal Cert.Kernel2Ideal.Gen Idealize.ShloMosaic Idealize.ShloMosaic.TcCoe Idealize.SL.Sem
open Cert.FfnSpec

/-- The first half block's payload at an index. -/
theorem pay1_apply (v0 : Vec Ideal S256x1024 .f32) (v2 : Vec Ideal S1x1x1024 .f32) (v34 v37 : Vec Ideal S1x1024x2816 .bf16) (v56 : Vec Ideal S1x2816x1024 .bf16) (v62 : Vec Ideal S1x1024 .f32) (r : Fin 256) (l : Fin 1024) :
    k0_pay1 (F := Ideal) (k0_pay10 v62) (k0_pay11 (k0_pay3 v0) (k0_pay4 v0 v2) (k0_pay7 v0 v2 v34) v37 v56) (ix2 r l)
      = row (fun k => v0 (ix2 r k)) (fun k => v2 (ix3 0 0 k)) (fun k f => v34 (ix3 0 k f)) (fun k f => v37 (ix3 0 k f))
          (fun f k => v56 (ix3 0 f k)) (fun k => v62 (ix2 0 k)) l := by
  pointwise [k0_pay1, k0_pay10, k0_pay11, k0_pay3, k0_pay4, k0_pay7]
  simp only [gate_eq]
  rfl

theorem pay2_apply (v0 : Vec Ideal S256x1024 .f32) (v2 : Vec Ideal S1x1x1024 .f32) (v34 v37 : Vec Ideal S1x1024x2816 .bf16) (v56 : Vec Ideal S1x2816x1024 .bf16) (v62 : Vec Ideal S1x1024 .f32) (r : Fin 256) (l : Fin 1024) :
    k0_pay2 (F := Ideal) (k0_pay5 v0) (k0_pay8 (k0_pay6 v0 v2) v34) (k0_pay9 (k0_pay6 v0 v2) v37) v56 v62 (ix2 r l)
      = row (fun k => v0 (ix2 r k)) (fun k => v2 (ix3 0 0 k)) (fun k f => v34 (ix3 0 k f)) (fun k f => v37 (ix3 0 k f))
          (fun f k => v56 (ix3 0 f k)) (fun k => v62 (ix2 0 k)) l := by
  pointwise [k0_pay2, k0_pay5, k0_pay6, k0_pay8, k0_pay9]
  simp only [gate_eq]
  rfl

theorem idx : ∀ t : Fin cfg0.N, win0_0.index t = ![t.val, 0] ∧ win0_1.index t = ![1, 0, 0] ∧ win0_2.index t = ![1, 0, 0]
    ∧ win0_3.index t = ![1, 0, 0] ∧ win0_4.index t = ![1, 0, 0] ∧ win0_5.index t = ![0, 0] ∧ win0_6.index t = ![t.val, 0] :=
  (by decide +kernel : ∀ t : Fin grid0.N, _)

/-- The array that the layer leaves: row by row the layer's function of the arguments' rows. -/
def G (x : FVec Ideal S16x2048x1024 .f32) (g : FVec Ideal S2x1024 .f32) (wg wu : FVec Ideal S2x1024x2816 .f32) (wd : FVec Ideal S2x2816x1024 .f32)
    (fg : FVec Ideal S1024 .f32) : FVec Ideal S32768x1024 .f32 := fun i =>
  row (fun k => x (ix3 ⟨(i 0).val / 2048, by have := (i 0).isLt; exact Nat.div_lt_of_lt_mul this⟩ ⟨(i 0).val % 2048, Nat.mod_lt _ (by decide)⟩ k)) (fun k => g (ix2 1 k)) (fun k f => wg (ix3 1 k f))
    (fun k f => wu (ix3 1 k f)) (fun f k => wd (ix3 1 f k)) (fun k => fg (ix1 k)) (i 1)

variable (m : (ℓ : Loc nD τ sig) → Buf (Elt Ideal) ℓ)

/-- Row `r` of block `t` of the activations is row `512 t + r` of the array. -/
theorem blk0 (c : Dev nD) (t : Fin cfg0.N) (r : Fin 512) (k : Fin 1024) (b : Fin 16) (s : Fin 2048) (h : 2048 * b.val + s.val = 512 * t.val + r.val) :
    (iblk m c 0 t : FVec Ideal S512x1024 .f32) (ix2 r k) = (m ((c : Thread nD τ).loc main_arg0) : FVec Ideal S16x2048x1024 .f32) (ix3 b s k) := by
  blk_ext! [iblk, V, idx t]

theorem blk1 (c : Dev nD) (t : Fin cfg0.N) (k : Fin 1024) :
    (iblk m c 1 t : FVec Ideal S1x1x1024 .f32) (ix3 0 0 k) = (m ((c : Thread nD τ).loc main_arg1) : FVec Ideal S2x1024 .f32) (ix2 1 k) := by
  blk_ext! [iblk, V, idx t]

theorem blk2 (c : Dev nD) (t : Fin cfg0.N) (k : Fin 1024) (f : Fin 2816) :
    (iblk m c 2 t : FVec Ideal S1x1024x2816 .bf16) (ix3 0 k f) = (m ((c : Thread nD τ).loc main_arg2) : FVec Ideal S2x1024x2816 .f32) (ix3 1 k f) := by
  blk_ext! [iblk, V, idx t]

theorem blk3 (c : Dev nD) (t : Fin cfg0.N) (k : Fin 1024) (f : Fin 2816) :
    (iblk m c 3 t : FVec Ideal S1x1024x2816 .bf16) (ix3 0 k f) = (m ((c : Thread nD τ).loc main_arg3) : FVec Ideal S2x1024x2816 .f32) (ix3 1 k f) := by
  blk_ext! [iblk, V, idx t]

theorem blk4 (c : Dev nD) (t : Fin cfg0.N) (f : Fin 2816) (k : Fin 1024) :
    (iblk m c 4 t : FVec Ideal S1x2816x1024 .bf16) (ix3 0 f k) = (m ((c : Thread nD τ).loc main_arg4) : FVec Ideal S2x2816x1024 .f32) (ix3 1 f k) := by
  blk_ext! [iblk, V, idx t]

theorem blk5 (c : Dev nD) (t : Fin cfg0.N) (k : Fin 1024) :
    (iblk m c 5 t : FVec Ideal S1x1024 .f32) (ix2 0 k) = (m ((c : Thread nD τ).loc main_arg5) : FVec Ideal S1024 .f32) (ix1 k) := by
  blk_ext! [iblk, V, idx t]

theorem emb0 (t : Fin cfg0.N) (y : S512x1024.Idx) : (((win0_6.blk t).view.emb y 0 : Fin 32768) : ℕ) = 512 * t.val + (y 0).val := by
  blk_simp [idx t]
  try omega

theorem emb1 (t : Fin cfg0.N) (y : S512x1024.Idx) : (((win0_6.blk t).view.emb y 1 : Fin 1024) : ℕ) = (y 1).val := by
  blk_simp [idx t]
  try omega

/-- The layer on row `y 0` of the blocks of point `t` is `G` where the block's index `y` sits in the array. -/
theorem row_block (c : Dev nD) (t : Fin cfg0.N) (y : S512x1024.Idx) :
    row (fun k => (iblk m c 0 t : FVec Ideal S512x1024 .f32) (ix2 (y 0) k)) (fun k => (iblk m c 1 t : FVec Ideal S1x1x1024 .f32) (ix3 0 0 k))
        (fun k f => (iblk m c 2 t : FVec Ideal S1x1024x2816 .bf16) (ix3 0 k f)) (fun k f => (iblk m c 3 t : FVec Ideal S1x1024x2816 .bf16) (ix3 0 k f))
        (fun f k => (iblk m c 4 t : FVec Ideal S1x2816x1024 .bf16) (ix3 0 f k)) (fun k => (iblk m c 5 t : FVec Ideal S1x1024 .f32) (ix2 0 k)) (y 1)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) ((win0_6.blk t).view.emb y) := by
  refine row_congr (fun k => ?_) (fun k => blk1 m c t k) (fun k f => blk2 m c t k f) (fun k f => blk3 m c t k f) (fun f k => blk4 m c t f k)
    (fun k => blk5 m c t k) (Fin.ext (emb1 t y).symm)
  refine blk0 m c t (y 0) k _ _ ?_
  have h := emb0 t y
  show 2048 * (((win0_6.blk t).view.emb y 0 : Fin 32768).val / 2048) + ((win0_6.blk t).view.emb y 0 : Fin 32768).val % 2048 = _
  rw [Nat.div_add_mod, h]

/-- A load of the upper half block reads 256 rows further on, -/
theorem ld_hi (X : Vec Ideal S512x1024 .f32) (r : Fin 256) (r' : Fin 512) (h : r'.val = 256 + r.val) (k : Fin 1024) :
    (View.ld X r0_2 : Vec Ideal S256x1024 .f32) (ix2 r k) = X (ix2 r' k) := by
  pointwise
  exact congrArg X (by blk_ext [])

/-- and a load of the lower one reads the row itself. -/
theorem ld_lo (X : Vec Ideal S512x1024 .f32) (r : Fin 256) (r' : Fin 512) (h : r'.val = r.val) (k : Fin 1024) :
    (View.ld X r0_0 : Vec Ideal S256x1024 .f32) (ix2 r k) = X (ix2 r' k) := by
  pointwise
  exact congrArg X (by blk_ext [])

/-- A load of a whole block is the block. -/
theorem ld1 (X : Vec Ideal S1x1x1024 .f32) : View.ld X r0_1 = X := View.ld_unit_lit (h := by decide) ..
theorem ld3 (X : Vec Ideal S1x1024x2816 .bf16) : View.ld X r0_3 = X := View.ld_unit_lit (h := by decide) ..
theorem ld4 (X : Vec Ideal S1x2816x1024 .bf16) : View.ld X r0_4 = X := View.ld_unit_lit (h := by decide) ..
theorem ld5 (X : Vec Ideal S1x1024 .f32) : View.ld X r0_5 = X := View.ld_unit_lit (h := by decide) ..

/-- The result array after the run. -/
theorem final (c : Dev nD) : (dats m 0 c).arrAt 6 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold_out out0_6
  refine Eq.trans ?_ (row_block m c t y)
  canon_tiles x h
  · refine (congrArg _ (show x = ix2 (x 0) (x 1) from by funext a; fin_cases a <;> rfl)).trans ((pay2_apply _ _ _ _ _ _ (x 0) (x 1)).trans
      (row_congr (fun k => ld_hi _ _ _ h0 k) (fun k => congrFun (ld1 _) _) (fun k f => congrFun (ld3 _) _) (fun k f => congrFun (ld3 _) _)
        (fun k f => congrFun (ld4 _) _) (fun k => congrFun (ld5 _) _) (Fin.ext h1.symm)))
  · refine (congrArg _ (show x = ix2 (x 0) (x 1) from by funext a; fin_cases a <;> rfl)).trans ((pay1_apply _ _ _ _ _ _ (x 0) (x 1)).trans
      (row_congr (fun k => ld_lo _ _ _ h0 k) (fun k => congrFun (ld1 _) _) (fun k f => congrFun (ld3 _) _) (fun k f => congrFun (ld3 _) _)
        (fun k f => congrFun (ld4 _) _) (fun k => congrFun (ld5 _) _) (Fin.ext h1.symm)))

end Cert.Kernel2Ideal.Value
-- ==== Proof.Ffn.Reference.lean ====
/-
  What the feed-forward's reference computes, entry by entry.
-/
module

public import proofs.«01_k».proof.Proof.Gen.Reference2Ideal.Run
public import Idealize.ShloMosaic.Lib.Pipeline.ValueKit
public import Idealize.ShloMosaic.Lib.Pointwise
public import proofs.«01_k».proof.Proof.Ffn.Spec

@[expose] public section
set_option maxRecDepth 16384
noncomputable section
namespace Cert.Reference2Ideal.Value
open Cert.Reference2Ideal Cert.Reference2Ideal.Gen Idealize.ShloMosaic Idealize.ShloMosaic.TcCoe Idealize.SL.Sem
open Cert.FfnSpec

/-- The reference's normalisation of the rows of `x` with the gains `g`. -/
def rNorm (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The reference's feed-forward of the rows `h`, added to the rows of `x`. -/
def rMid (x h : FVec Ideal S16x2048x1024 .f32) (wg wu : FVec Ideal S2x1024x2816 .f32) (wd : FVec Ideal S2x2816x1024 .f32) : FVec Ideal S16x2048x1024 .f32 :=
  have a : FVec Ideal S16x2048x2816 .f32 := Host.dotGeneral dot_S16x2048x1024_S1024x2816_S16x2048x2816_2_0_01_1_n_n none h (shapeCast _ (extractStridedSlice S1x1024x2816 ![1, 0, 0] wg slices_S2x1024x2816_S1x1024x2816_1_0_0) shapeCasts_S1x1024x2816_S1024x2816)
  addf x (mulf (broadcastInDim S16x2048x1024 ![] bcast_S_S16x2048x1024 (constant S_ .f32 0x3F000000#32)) (Host.dotGeneral dot_S16x2048x2816_S2816x1024_S16x2048x1024_2_0_01_1_n_n none (mulf (mulf a (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf a))))) (Host.dotGeneral dot_S16x2048x1024_S1024x2816_S16x2048x2816_2_0_01_1_n_n none h (shapeCast _ (extractStridedSlice S1x1024x2816 ![1, 0, 0] wu slices_S2x1024x2816_S1x1024x2816_1_0_0) shapeCasts_S1x1024x2816_S1024x2816))) (shapeCast _ (extractStridedSlice S1x2816x1024 ![1, 0, 0] wd slices_S2x2816x1024_S1x2816x1024_1_0_0) shapeCasts_S1x2816x1024_S2816x1024)))

/-- The reference's result is these two, one after the other. -/
theorem res_eq (m : (ℓ : Loc nD τ sig) → Buf (Elt Ideal) ℓ) (c : Dev nD) :
    res_out0 m c = shapeCast S32768x1024 (rNorm (rMid (m ((c.tc : Thread nD τ).loc main_arg0)) (rNorm (m ((c.tc : Thread nD τ).loc main_arg0))
        (shapeCast _ (extractStridedSlice S1x1024 ![1, 0] (m ((c.tc : Thread nD τ).loc main_arg1)) slices_S2x1024_S1x1024_1_0) shapeCasts_S1x1024_S1024))
        (m ((c.tc : Thread nD τ).loc main_arg2)) (m ((c.tc : Thread nD τ).loc main_arg3)) (m ((c.tc : Thread nD τ).loc main_arg4)))
        (m ((c.tc : Thread nD τ).loc main_arg5))) shapeCasts_S16x2048x1024_S32768x1024 := by
  rfl

theorem rNorm_apply (x : FVec Ideal S16x2048x1024 .f32) (g : FVec Ideal S1024 .f32) (b : Fin 16) (s : Fin 2048) (l : Fin 1024) :
    rNorm x g (ix3 b s l) = rmsn (fun k => x (ix3 b s k)) (fun k => g (ix1 k)) l := by
  pointwise [rNorm, rmsn]

theorem rMid_apply (x h : FVec Ideal S16x2048x1024 .f32) (wg wu : FVec Ideal S2x1024x2816 .f32) (wd : FVec Ideal S2x2816x1024 .f32) (b : Fin 16) (s : Fin 2048) (l : Fin 1024) :
    rMid x h wg wu wd (ix3 b s l) = mid (fun k => x (ix3 b s k)) (fun k => h (ix3 b s k)) (fun k f => wg (ix3 1 k f)) (fun k f => wu (ix3 1 k f)) (fun f k => wd (ix3 1 f k)) l := by
  pointwise [rMid, mid, Ideal.logistic]

/-- The reference's result at an index: the layer on that row of the arguments. -/
theorem res_apply (m : (ℓ : Loc nD τ sig) → Buf (Elt Ideal) ℓ) (c : Dev nD) (n : Fin 32768) (l : Fin 1024) :
    (res_out0 m c : FVec Ideal S32768x1024 .f32) (ix2 n l)
      = row (fun k => (m ((c.tc : Thread nD τ).loc main_arg0) : FVec Ideal S16x2048x1024 .f32) (ix3 ⟨n.val / 2048, Nat.div_lt_of_lt_mul n.isLt⟩ ⟨n.val % 2048, Nat.mod_lt _ (by decide)⟩ k))
          (fun k => (m ((c.tc : Thread nD τ).loc main_arg1) : FVec Ideal S2x1024 .f32) (ix2 1 k))
          (fun k f => (m ((c.tc : Thread nD τ).loc main_arg2) : FVec Ideal S2x1024x2816 .f32) (ix3 1 k f))
          (fun k f => (m ((c.tc : Thread nD τ).loc main_arg3) : FVec Ideal S2x1024x2816 .f32) (ix3 1 k f))
          (fun f k => (m ((c.tc : Thread nD τ).loc main_arg4) : FVec Ideal S2x2816x1024 .f32) (ix3 1 f k))
          (fun k => (m ((c.tc : Thread nD τ).loc main_arg5) : FVec Ideal S1024 .f32) (ix1 k)) l := by
  rw [res_eq]
  refine (shapeCast_apply _ _ (ix2 n l) (ix3 ⟨n.val / 2048, Nat.div_lt_of_lt_mul n.isLt⟩ ⟨n.val % 2048, Nat.mod_lt _ (by decide)⟩ l) ?_).trans ?_
  · rw [Shape.rowMajor_val_three, Shape.rowMajor_val_two]
    simp [ix3, ix2]
    omega
  rw [rNorm_apply]
  unfold row
  simp only [rMid_apply, rNorm_apply]
  pointwise

end Cert.Reference2Ideal.Value
-- ==== Proof.Ffn.Claims.lean ====
/-
  The feed-forward call against its reference: the reference's frame, and the two programs' equal results.
-/
module

public import proofs.«01_k».proof.Defs
public import proofs.«01_k».proof.Proof.Gen.Kernel2Ideal
public import proofs.«01_k».proof.Proof.Gen.Reference2Ideal
public import proofs.«01_k».proof.Proof.Ffn.Kernel
public import proofs.«01_k».proof.Proof.Ffn.Reference
public import Idealize.ShloMosaic.Adequacy
public import Idealize.ShloMosaic.Init

@[expose] public section

noncomputable section

namespace Cert.FfnClaims

open Idealize.ShloMosaic Idealize.ShloMosaic.TcCoe Idealize.SL.Sem

/-- The reference runs and leaves its arguments, and every semaphore counter at zero. -/
theorem frame_reference : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- From equal arguments the two programs end with equal results. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Kernel2Ideal.Value.G (m ((c.tc : Thread _ _).loc Cert.Kernel2Ideal.main_arg0)) (m ((c.tc : Thread _ _).loc Cert.Kernel2Ideal.main_arg1))
    (m ((c.tc : Thread _ _).loc Cert.Kernel2Ideal.main_arg2)) (m ((c.tc : Thread _ _).loc Cert.Kernel2Ideal.main_arg3))
    (m ((c.tc : Thread _ _).loc Cert.Kernel2Ideal.main_arg4)) (m ((c.tc : Thread _ _).loc Cert.Kernel2Ideal.main_arg5)), ?_, ?_⟩
  · exact (θ_run Cert.Kernel2Ideal.defs _ _).mono (fun _ h c => ⟨(h c).1.trans (Cert.Kernel2Ideal.Value.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨e0, e1, e2, e3, e4, e5⟩ := hagree c
    beta_reduce
    rw [← e0, ← e1, ← e2, ← e3, ← e4, ← e5]
    funext i
    exact (congrArg _ (show i = ix2 (i 0) (i 1) from by funext a; fin_cases a <;> rfl)).trans (Cert.Reference2Ideal.Value.res_apply m' c (i 0) (i 1))

end Cert.FfnClaims

end
-- ==== Proof.Inproj.Run.lean ====
/-
  The in-projection's body run through, statement by statement. The module that is written for this program allows the run
  fewer steps than it takes, so the run stands here, with more.
-/
module

public import proofs.«01_k».proof.Proof.Gen.Kernel3Ideal.Frame.Runs

@[expose] public section

set_option maxRecDepth 16384

noncomputable section

namespace Cert.Kernel3Ideal.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3000000 in
/-- The body run once, on whole buffers: the inputs at their contents, the outputs at anything. The result is the list of
    pieces that the stores leave in each output, the last store first, with the proof that the body ends there and leaves
    the inputs as they were. -/
noncomputable def bodyRun (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) :
    Σ' (L20 : List (View.Piece (Elt F) S512x1664 .bf16)), Σ' (L21 : List (View.Piece (Elt F) S512x512 .bf16)), Σ' (L22 : List (View.Piece (Elt F) S512x3072 .bf16)), Σ' (L23 : List (View.Piece (Elt F) S512x2048 .bf16)), Σ' (L24 : List (View.Piece (Elt F) S64x512 .f32)), Σ' (L25 : List (View.Piece (Elt F) S4096x128 .bf16)), Σ' (L26 : List (View.Piece (Elt F) S512x2048 .bf16)), Σ' (L27 : List (View.Piece (Elt F) S64x512 .f32)), Σ' (L28 : List (View.Piece (Elt F) S4096x128 .bf16)), { L29 : List (View.Piece (Elt F) S512x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact H29

end Cert.Kernel3Ideal.Inproj

end
-- ==== Proof.Inproj.Frame.lean ====
/-
  The in-projection's frame over any float values: what its ten outputs hold after the body at a grid point, the data of
  its pipeline, and the run of the whole program.
-/
module

public import proofs.«01_k».proof.Proof.Inproj.Run
public import Idealize.ShloMosaic.Lib.Claim

@[expose] public section

set_option maxRecDepth 16384

noncomputable section

namespace Cert.Kernel3Ideal.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces of output 20 cover its block. -/
theorem cover0_A_20 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S512x1664.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).1, y ∈ pc.1.set :=
  View.cover_of_tiledBy (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).1 ![256, 128] (by sl_kernel_rfl) y

/-- What the body leaves in output 20's buffer. -/
def out0_A_20 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S512x1664 .bf16 :=
  VO0_20.read (Elt F) (VO0_20.writes (Elt F) VO0_20.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).1)

/-- The pieces of output 21 cover its block. -/
theorem cover0_A_21 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S512x512.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.1 S256x512.size (by sl_kernel_rfl) y

/-- What the body leaves in output 21's buffer. -/
def out0_A_21 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S512x512 .bf16 :=
  VO0_21.read (Elt F) (VO0_21.writes (Elt F) VO0_21.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.1)

/-- The pieces of output 22 cover its block. -/
theorem cover0_A_22 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S512x3072.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.1 S256x512.size (by sl_kernel_rfl) y

/-- What the body leaves in output 22's buffer. -/
def out0_A_22 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S512x3072 .bf16 :=
  VO0_22.read (Elt F) (VO0_22.writes (Elt F) VO0_22.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.1)

/-- The pieces of output 23 cover its block. -/
theorem cover0_A_23 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S512x2048.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.1 S256x512.size (by sl_kernel_rfl) y

/-- What the body leaves in output 23's buffer. -/
def out0_A_23 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S512x2048 .bf16 :=
  VO0_23.read (Elt F) (VO0_23.writes (Elt F) VO0_23.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.1)

/-- The pieces of output 24 cover its block. -/
theorem cover0_A_24 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S64x512.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.1 S32x512.size (by sl_kernel_rfl) y

/-- What the body leaves in output 24's buffer. -/
def out0_A_24 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S64x512 .f32 :=
  VO0_24.read (Elt F) (VO0_24.writes (Elt F) VO0_24.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.1)

/-- The pieces of output 25 cover its block. -/
theorem cover0_A_25 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S4096x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.1 S512x128.size (by sl_kernel_rfl) y

/-- What the body leaves in output 25's buffer. -/
def out0_A_25 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S4096x128 .bf16 :=
  VO0_25.read (Elt F) (VO0_25.writes (Elt F) VO0_25.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.1)

/-- The pieces of output 26 cover its block. -/
theorem cover0_A_26 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S512x2048.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.1 S256x512.size (by sl_kernel_rfl) y

/-- What the body leaves in output 26's buffer. -/
def out0_A_26 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S512x2048 .bf16 :=
  VO0_26.read (Elt F) (VO0_26.writes (Elt F) VO0_26.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.1)

/-- The pieces of output 27 cover its block. -/
theorem cover0_A_27 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S64x512.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.1 S32x512.size (by sl_kernel_rfl) y

/-- What the body leaves in output 27's buffer. -/
def out0_A_27 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S64x512 .f32 :=
  VO0_27.read (Elt F) (VO0_27.writes (Elt F) VO0_27.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.1)

/-- The pieces of output 28 cover its block. -/
theorem cover0_A_28 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S4096x128.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.2.1 S512x128.size (by sl_kernel_rfl) y

/-- What the body leaves in output 28's buffer. -/
def out0_A_28 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S4096x128 .bf16 :=
  VO0_28.read (Elt F) (VO0_28.writes (Elt F) VO0_28.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.2.1)

/-- The pieces of output 29 cover its block. -/
theorem cover0_A_29 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) (y : S512x1536.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.2.2.1 S256x512.size (by sl_kernel_rfl) y

/-- What the body leaves in output 29's buffer. -/
def out0_A_29 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1x1024 .f32) (harg4 : arg4.IsWhole) (arg5 : Memref sig .tc .vmem S1x1024x7040 .bf16) (harg5 : arg5.IsWhole) (arg6 : Memref sig .tc .vmem S1x1x1792 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x128x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S256x256 .bf16) (harg17 : arg17.IsWhole) (arg18 : Memref sig .tc .vmem S256x256 .bf16) (harg18 : arg18.IsWhole) (arg19 : Memref sig .tc .vmem S32x256 .bf16) (harg19 : arg19.IsWhole) (arg20 : Memref sig .tc .vmem S128x128 .bf16) (harg20 : arg20.IsWhole) (arg21 : Memref sig .tc .vmem S512x1664 .bf16) (harg21 : arg21.IsWhole) (arg22 : Memref sig .tc .vmem S512x512 .bf16) (harg22 : arg22.IsWhole) (arg23 : Memref sig .tc .vmem S512x3072 .bf16) (harg23 : arg23.IsWhole) (arg24 : Memref sig .tc .vmem S512x2048 .bf16) (harg24 : arg24.IsWhole) (arg25 : Memref sig .tc .vmem S64x512 .f32) (harg25 : arg25.IsWhole) (arg26 : Memref sig .tc .vmem S4096x128 .bf16) (harg26 : arg26.IsWhole) (arg27 : Memref sig .tc .vmem S512x2048 .bf16) (harg27 : arg27.IsWhole) (arg28 : Memref sig .tc .vmem S64x512 .f32) (harg28 : arg28.IsWhole) (arg29 : Memref sig .tc .vmem S4096x128 .bf16) (harg29 : arg29.IsWhole) (arg30 : Memref sig .tc .vmem S512x1536 .bf16) (harg30 : arg30.IsWhole)
    (x0 : Vec F S512x1024 .f32) (x1 : Vec F S8x1024 .f32) (x2 : Vec F S8x1024 .f32) (x3 : Vec F S1x1x1024 .f32) (x4 : Vec F S1x1024x7040 .bf16) (x5 : Vec F S1x1x1792 .f32) (x6 : Vec F S1x1x512 .f32) (x7 : Vec F S1x1x512 .f32) (x8 : Vec F S1x1x512 .f32) (x9 : Vec F S1x1x512 .f32) (x10 : Vec F S1x128x1024 .f32) (x11 : Vec F S1x128x1024 .f32) (x12 : Vec F S1x128x512 .f32) (x13 : Vec F S1x1x512 .f32) (x14 : Vec F S1x1x512 .f32) (x15 : Vec F S1x1x512 .f32) (x16 : Vec F S256x256 .bf16) (x17 : Vec F S256x256 .bf16) (x18 : Vec F S32x256 .bf16) (x19 : Vec F S128x128 .bf16) : Vec F S512x1536 .bf16 :=
  VO0_29.read (Elt F) (VO0_29.writes (Elt F) VO0_29.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19).2.2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S512x1664 .bf16 × Vec F S512x512 .bf16 × Vec F S512x3072 .bf16 × Vec F S512x2048 .bf16 × Vec F S64x512 .f32 × Vec F S4096x128 .bf16 × Vec F S512x2048 .bf16 × Vec F S64x512 .f32 × Vec F S4096x128 .bf16 × Vec F S512x1536 .bf16 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-! ## The pipeline's proof data -/

/-- The proof data of the one pipeline on core `c`: the arrays as the region finds them (`V`); after the body at
    point `t` each input's buffer at its block and the outputs' at `outsAt0`; the invariant the class's
    (`ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t).1
    | ⟨21, _⟩ => (outsAt0 m c t).2.1
    | ⟨22, _⟩ => (outsAt0 m c t).2.2.1
    | ⟨23, _⟩ => (outsAt0 m c t).2.2.2.1
    | ⟨24, _⟩ => (outsAt0 m c t).2.2.2.2.1
    | ⟨25, _⟩ => (outsAt0 m c t).2.2.2.2.2.1
    | ⟨26, _⟩ => (outsAt0 m c t).2.2.2.2.2.2.1
    | ⟨27, _⟩ => (outsAt0 m c t).2.2.2.2.2.2.2.1
    | ⟨28, _⟩ => (outsAt0 m c t).2.2.2.2.2.2.2.2.1
    | ⟨29, _⟩ => (outsAt0 m c t).2.2.2.2.2.2.2.2.2
    | ⟨_ + 30, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t).1 := by dsimp only [dats]
theorem after0_21 (c : Dev nD) (t : Fin cfg0.N) : (dats m 0 c).after 21 t = (outsAt0 m c t).2.1 := by dsimp only [dats]
theorem after0_22 (c : Dev nD) (t : Fin cfg0.N) : (dats m 0 c).after 22 t = (outsAt0 m c t).2.2.1 := by dsimp only [dats]
theorem after0_23 (c : Dev nD) (t : Fin cfg0.N) : (dats m 0 c).after 23 t = (outsAt0 m c t).2.2.2.1 := by dsimp only [dats]
theorem after0_24 (c : Dev nD) (t : Fin cfg0.N) : (dats m 0 c).after 24 t = (outsAt0 m c t).2.2.2.2.1 := by dsimp only [dats]
theorem after0_25 (c : Dev nD) (t : Fin cfg0.N) : (dats m 0 c).after 25 t = (outsAt0 m c t).2.2.2.2.2.1 := by dsimp only [dats]
theorem after0_26 (c : Dev nD) (t : Fin cfg0.N) : (dats m 0 c).after 26 t = (outsAt0 m c t).2.2.2.2.2.2.1 := by dsimp only [dats]
theorem after0_27 (c : Dev nD) (t : Fin cfg0.N) : (dats m 0 c).after 27 t = (outsAt0 m c t).2.2.2.2.2.2.2.1 := by dsimp only [dats]
theorem after0_28 (c : Dev nD) (t : Fin cfg0.N) : (dats m 0 c).after 28 t = (outsAt0 m c t).2.2.2.2.2.2.2.2.1 := by dsimp only [dats]
theorem after0_29 (c : Dev nD) (t : Fin cfg0.N) : (dats m 0 c).after 29 t = (outsAt0 m c t).2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 2800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  unfold outsAt0
  unfold out0_A_20 out0_A_21 out0_A_22 out0_A_23 out0_A_24 out0_A_25 out0_A_26 out0_A_27 out0_A_28 out0_A_29; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H29
  ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The whole program ends, every array of the pipeline is at what the data say, and every counter is at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The program ends, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel3Ideal.Inproj

end
-- ==== Proof.Inproj.Spec.lean ====
module

public import proofs.«01_k».proof.Proof.Ffn.Spec

/-! One entry of the in-projection: a token's normed row against a column of the weights. -/

@[expose] public section
noncomputable section
namespace Cert.InprojSpec
open Idealize.ShloMosaic
open Cert.FfnSpec (rmsn)

/-- The row `x`, normed with the gains `g`, against the column `w`. -/
def proj (x g w : Fin 1024 → EReal) : EReal := ∑ k, rmsn x g k * w k

theorem proj_zero (x g : Fin 1024 → EReal) : proj x g (fun _ => 0) = 0 := by
  simp [proj]

theorem proj_congr {x x' g g' w w' : Fin 1024 → EReal} (hx : ∀ k, x k = x' k) (hg : ∀ k, g k = g' k) (hw : ∀ k, w k = w' k) :
    proj x g w = proj x' g' w' := by
  rw [funext hx, funext hg, funext hw]

end Cert.InprojSpec

end
-- ==== Proof.Inproj.Kernel.lean ====
/-
  What the in-projection leaves in three of its ten outputs: the projected columns of the first branch, of the mixer and
  of the gates.
-/
module

public import proofs.«01_k».proof.Proof.Inproj.Frame
public import Idealize.ShloMosaic.Lib.Pipeline.ValueKit
public import Idealize.ShloMosaic.Lib.Pointwise
public import proofs.«01_k».proof.Proof.Inproj.Spec

/-! The in-projection kernel: its stored tiles at an index, and the three arrays of projected columns that its run leaves. -/

@[expose] public section
set_option maxRecDepth 16384
noncomputable section
namespace Cert.Kernel3Ideal.Inproj
open Cert.Kernel3Ideal Cert.Kernel3Ideal.Gen Idealize.ShloMosaic Idealize.ShloMosaic.TcCoe Idealize.SL.Sem
open Cert.FfnSpec (rmsn)
open Cert.InprojSpec

/-- The normed rows of the first half of a block. -/
theorem norm_apply (g : Vec Ideal S1x1x1024 .f32) (v : Vec Ideal S256x1024 .f32) (r : Fin 256) (k : Fin 1024) :
    k0_pay23 (F := Ideal) (k0_pay2 g) v (ix2 r k) = rmsn (fun k => v (ix2 r k)) (fun k => g (ix3 0 0 k)) k := by
  pointwise [k0_pay23, k0_pay2, rmsn]

theorem norm_same (g : Vec Ideal S1x1x1024 .f32) (v : Vec Ideal S256x1024 .f32) : k0_pay28 (F := Ideal) (k0_pay2 g) v = k0_pay23 (F := Ideal) (k0_pay2 g) v := rfl

theorem dot_apply (h : FVec Ideal S256x1024 .bf16) (w : Vec Ideal S1x1024x512 .bf16) (r : Fin 256) (j : Fin 512) :
    k0_pay45 (F := Ideal) h w (ix2 r j) = ∑ k, h (ix2 r k) * w (ix3 0 k j) := by
  pointwise [k0_pay45]

theorem dot_apply' (h : FVec Ideal S256x1024 .bf16) (w : Vec Ideal S1x1024x128 .bf16) (r : Fin 256) (j : Fin 128) :
    k0_pay97 (F := Ideal) h w (ix2 r j) = ∑ k, h (ix2 r k) * w (ix3 0 k j) := by
  pointwise [k0_pay97]

/-- What row `R` of a block projects to on column `C` of the padded weights. -/
def entry (x0 : Vec Ideal S512x1024 .f32) (x3 : Vec Ideal S1x1x1024 .f32) (x4 : Vec Ideal S1x1024x7040 .bf16) (R : Fin 512) (C : Fin 7040) : EReal :=
  proj (fun k => x0 (ix2 R k)) (fun k => x3 (ix3 0 0 k)) (fun k => x4 (ix3 0 k C))

/-- A tile of 512 columns from column `o`, over the rows from row `q`. -/
theorem tile (x0 : Vec Ideal S512x1024 .f32) (x3 : Vec Ideal S1x1x1024 .f32) (x4 : Vec Ideal S1x1024x7040 .bf16) (v : Vec Ideal S256x1024 .f32) (w : Vec Ideal S1x1024x512 .bf16)
    (x : S256x512.Idx) (R : Fin 512) (C : Fin 7040)
    (hv : ∀ k : Fin 1024, v (ix2 (x 0) k) = x0 (ix2 R k)) (hw : ∀ k : Fin 1024, w (ix3 0 k (x 1)) = x4 (ix3 0 k C)) :
    k0_pay45 (F := Ideal) (k0_pay23 (F := Ideal) (k0_pay2 x3) v) w x = entry x0 x3 x4 R C := by
  have hx : x = ix2 (x 0) (x 1) := by funext a; fin_cases a <;> rfl
  refine (congrArg _ hx).trans ((dot_apply _ w (x 0) (x 1)).trans ?_)
  unfold entry proj
  refine Finset.sum_congr rfl fun k _ => congrArg₂ (· * ·) ((norm_apply x3 v (x 0) k).trans ?_) (hw k)
  rw [funext hv]

/-- The last tile, of 128 columns. -/
theorem tile' (x0 : Vec Ideal S512x1024 .f32) (x3 : Vec Ideal S1x1x1024 .f32) (x4 : Vec Ideal S1x1024x7040 .bf16) (v : Vec Ideal S256x1024 .f32) (w : Vec Ideal S1x1024x128 .bf16)
    (x : S256x128.Idx) (R : Fin 512) (C : Fin 7040)
    (hv : ∀ k : Fin 1024, v (ix2 (x 0) k) = x0 (ix2 R k)) (hw : ∀ k : Fin 1024, w (ix3 0 k (x 1)) = x4 (ix3 0 k C)) :
    k0_pay97 (F := Ideal) (k0_pay23 (F := Ideal) (k0_pay2 x3) v) w x = entry x0 x3 x4 R C := by
  have hx : x = ix2 (x 0) (x 1) := by funext a; fin_cases a <;> rfl
  refine (congrArg _ hx).trans ((dot_apply' _ w (x 0) (x 1)).trans ?_)
  unfold entry proj
  refine Finset.sum_congr rfl fun k _ => congrArg₂ (· * ·) ((norm_apply x3 v (x 0) k).trans ?_) (hw k)
  rw [funext hv]

/-- A tile as the body loads it: the rows from `q`, the columns from `o`. -/
theorem tile_at (x0 : Vec Ideal S512x1024 .f32) (x3 : Vec Ideal S1x1x1024 .f32) (x4 : Vec Ideal S1x1024x7040 .bf16) (q o : ℕ)
    (hq : ∀ a, (![q, 0] : Fin 2 → ℕ) a + (![256, 1024] : Fin 2 → ℕ) a ≤ S512x1024.size a)
    (ho : ∀ a, (![0, 0, o] : Fin 3 → ℕ) a + (![1, 1024, 512] : Fin 3 → ℕ) a ≤ S1x1024x7040.size a)
    (x : S256x512.Idx) (R : Fin 512) (C : Fin 7040) (hR : R.val = q + (x 0).val) (hC : C.val = o + (x 1).val) :
    k0_pay45 (F := Ideal) (k0_pay23 (F := Ideal) (k0_pay2 x3) (View.ld x0 (Rect.unit ![q, 0] ![256, 1024] hq))) (View.ld x4 (Rect.unit ![0, 0, o] ![1, 1024, 512] ho)) x
      = entry x0 x3 x4 R C :=
  tile x0 x3 x4 _ _ x R C
    (fun k => View.ld_unit_apply_of x0 _ _ hq _ (ix2 R k) fun a => by fin_cases a <;> simp [ix2, hR])
    (fun k => View.ld_unit_apply_of x4 _ _ ho _ (ix3 0 k C) fun a => by fin_cases a <;> simp [ix3, hC])

/-- The last tile as the body loads it. -/
theorem tile_at' (x0 : Vec Ideal S512x1024 .f32) (x3 : Vec Ideal S1x1x1024 .f32) (x4 : Vec Ideal S1x1024x7040 .bf16) (q o : ℕ)
    (hq : ∀ a, (![q, 0] : Fin 2 → ℕ) a + (![256, 1024] : Fin 2 → ℕ) a ≤ S512x1024.size a)
    (ho : ∀ a, (![0, 0, o] : Fin 3 → ℕ) a + (![1, 1024, 128] : Fin 3 → ℕ) a ≤ S1x1024x7040.size a)
    (x : S256x128.Idx) (R : Fin 512) (C : Fin 7040) (hR : R.val = q + (x 0).val) (hC : C.val = o + (x 1).val) :
    k0_pay97 (F := Ideal) (k0_pay23 (F := Ideal) (k0_pay2 x3) (View.ld x0 (Rect.unit ![q, 0] ![256, 1024] hq))) (View.ld x4 (Rect.unit ![0, 0, o] ![1, 1024, 128] ho)) x
      = entry x0 x3 x4 R C :=
  tile' x0 x3 x4 _ _ x R C
    (fun k => View.ld_unit_apply_of x0 _ _ hq _ (ix2 R k) fun a => by fin_cases a <;> simp [ix2, hR])
    (fun k => View.ld_unit_apply_of x4 _ _ ho _ (ix3 0 k C) fun a => by fin_cases a <;> simp [ix3, hC])

variable (m : (ℓ : Loc nD τ sig) → Buf (Elt Ideal) ℓ)

theorem idx : ∀ t : Fin cfg0.N, win0_0.index t = ![t.val, 0] ∧ win0_3.index t = ![0, 0, 0] ∧ win0_4.index t = ![0, 0, 0]
    ∧ win0_20.index t = ![t.val, 0] ∧ win0_21.index t = ![t.val, 0] ∧ win0_22.index t = ![t.val, 0] :=
  (by decide +kernel : ∀ t : Fin grid0.N, _)

theorem V_v84 (c : Dev nD) : V m c main_v84 = shapeCast S32768x1024 (m ((c : Thread nD τ).loc main_arg0) : FVec Ideal S16x2048x1024 .f32) shapeCasts_S16x2048x1024_S32768x1024 := by
  unfold V
  rfl

theorem V_v11 (c : Dev nD) : V m c main_v11 = shapeCast S2x1x1024 (m ((c : Thread nD τ).loc main_arg1) : FVec Ideal S2x1024 .f32) shapeCasts_S2x1024_S2x1x1024 := by
  unfold V
  rfl

/-- The columns of the weights, laid out with zero columns between them. -/
def padded (w : FVec Ideal S2x1024x6912 .f32) : FVec Ideal S2x1024x7040 .f32 :=
  concatenate S2x1024x7040 2 [⟨S2x1024x1568, extractStridedSlice S2x1024x1568 ![0, 0, 0] w slices_S2x1024x6912_S2x1024x1568_0_0_0⟩,
    ⟨S2x1024x96, broadcastInDim S2x1024x96 ![] bcast_S_S2x1024x96 (constant S_ .f32 0x00000000#32)⟩,
    ⟨S2x1024x512, extractStridedSlice S2x1024x512 ![0, 0, 1568] w slices_S2x1024x6912_S2x1024x512_0_0_1568⟩,
    ⟨S2x1024x1760, extractStridedSlice S2x1024x1760 ![0, 0, 2080] w slices_S2x1024x6912_S2x1024x1760_0_0_2080⟩,
    ⟨S2x1024x32, broadcastInDim S2x1024x32 ![] bcast_S_S2x1024x32 (constant S_ .f32 0x00000000#32)⟩,
    ⟨S2x1024x3072, extractStridedSlice S2x1024x3072 ![0, 0, 3840] w slices_S2x1024x6912_S2x1024x3072_0_0_3840⟩]
    concatenates_S2x1024x1568_S2x1024x96_S2x1024x512_S2x1024x1760_S2x1024x32_S2x1024x3072_S2x1024x7040_d2

theorem V_v7 (c : Dev nD) : V m c main_v7 = (truncf .bf16 (padded (m ((c : Thread nD τ).loc main_arg2))) bitsLt_bf16_f32 : FVec Ideal S2x1024x7040 .bf16) := by
  unfold V
  rfl

theorem padded_gla (w : FVec Ideal S2x1024x6912 .f32) (k : Fin 1024) (C : Fin 7040) (j : Fin 6912) (h : C.val < 1568) (hj : j.val = C.val) :
    padded w (ix3 0 k C) = w (ix3 0 k j) := by
  pointwise [padded]
  split
  · congr 2; apply Fin.ext; simp; omega
  · omega

theorem padded_zero (w : FVec Ideal S2x1024x6912 .f32) (k : Fin 1024) (C : Fin 7040) (h : 1568 ≤ C.val) (h' : C.val < 1664) :
    padded w (ix3 0 k C) = 0 := by
  pointwise [padded]
  split
  · omega
  split
  · rfl
  · omega

theorem padded_fnet (w : FVec Ideal S2x1024x6912 .f32) (k : Fin 1024) (C : Fin 7040) (j : Fin 6912) (h : 1664 ≤ C.val) (h' : C.val < 2176) (hj : j.val + 96 = C.val) :
    padded w (ix3 0 k C) = w (ix3 0 k j) := by
  pointwise [padded]
  split
  · omega
  split
  · omega
  split
  · congr 2; apply Fin.ext; simp; omega
  · omega

theorem padded_gate (w : FVec Ideal S2x1024x6912 .f32) (k : Fin 1024) (C : Fin 7040) (j : Fin 6912) (h : 3968 ≤ C.val) (hj : j.val + 128 = C.val) :
    padded w (ix3 0 k C) = w (ix3 0 k j) := by
  pointwise [padded]
  split
  · omega
  split
  · omega
  split
  · omega
  split
  · omega
  split
  · omega
  · congr 2; apply Fin.ext; simp; omega

theorem blk0 (c : Dev nD) (t : Fin cfg0.N) (r : Fin 512) (k : Fin 1024) (b : Fin 16) (s : Fin 2048) (h : 2048 * b.val + s.val = 512 * t.val + r.val) :
    (iblk m c 0 t : FVec Ideal S512x1024 .f32) (ix2 r k) = (m ((c : Thread nD τ).loc main_arg0) : FVec Ideal S16x2048x1024 .f32) (ix3 b s k) := by
  have e : (iblk m c 0 t : FVec Ideal S512x1024 .f32) (ix2 r k) = (V m c main_v84 : FVec Ideal S32768x1024 .f32) (ix2 ⟨512 * t.val + r.val, by have := t.isLt; have : t.val < 64 := this; omega⟩ k) := by
    blk_ext! [iblk, idx t]
  rw [e, V_v84]
  refine shapeCast_apply _ _ _ (ix3 b s k) ?_
  rw [Shape.rowMajor_val_three, Shape.rowMajor_val_two]
  simp [ix3, ix2]
  omega

theorem blk3 (c : Dev nD) (t : Fin cfg0.N) (k : Fin 1024) :
    (iblk m c 3 t : FVec Ideal S1x1x1024 .f32) (ix3 0 0 k) = (m ((c : Thread nD τ).loc main_arg1) : FVec Ideal S2x1024 .f32) (ix2 0 k) := by
  have e : (iblk m c 3 t : FVec Ideal S1x1x1024 .f32) (ix3 0 0 k) = (V m c main_v11 : FVec Ideal S2x1x1024 .f32) (ix3 0 0 k) := by
    blk_ext! [iblk, idx t]
  rw [e, V_v11]
  refine shapeCast_apply _ _ _ (ix2 0 k) ?_
  rw [Shape.rowMajor_val_three, Shape.rowMajor_val_two]
  simp [ix3, ix2]

theorem blk4 (c : Dev nD) (t : Fin cfg0.N) (k : Fin 1024) (C : Fin 7040) :
    (iblk m c 4 t : FVec Ideal S1x1024x7040 .bf16) (ix3 0 k C) = padded (m ((c : Thread nD τ).loc main_arg2)) (ix3 0 k C) := by
  have e : (iblk m c 4 t : FVec Ideal S1x1024x7040 .bf16) (ix3 0 k C) = (V m c main_v7 : FVec Ideal S2x1024x7040 .bf16) (ix3 0 k C) := by
    blk_ext! [iblk, idx t]
  rw [e, V_v7]
  rfl

/-- Token `n` projected on column `j`. -/
def tok (x : FVec Ideal S16x2048x1024 .f32) (g : FVec Ideal S2x1024 .f32) (w : FVec Ideal S2x1024x6912 .f32) (n : Fin 32768) (j : Fin 6912) : EReal :=
  proj (fun k => x (ix3 ⟨n.val / 2048, Nat.div_lt_of_lt_mul n.isLt⟩ ⟨n.val % 2048, Nat.mod_lt _ (by decide)⟩ k)) (fun k => g (ix2 0 k)) (fun k => w (ix3 0 k j))

/-- The columns of the first branch, and zeros after them. -/
def Ggla (x : FVec Ideal S16x2048x1024 .f32) (g : FVec Ideal S2x1024 .f32) (w : FVec Ideal S2x1024x6912 .f32) : FVec Ideal S32768x1664 .bf16 := fun i =>
  if h : (i 1).val < 1568 then tok x g w (i 0) ⟨(i 1).val, by omega⟩ else 0

/-- The columns of the second branch. -/
def Gfnet (x : FVec Ideal S16x2048x1024 .f32) (g : FVec Ideal S2x1024 .f32) (w : FVec Ideal S2x1024x6912 .f32) : FVec Ideal S32768x512 .bf16 := fun i =>
  tok x g w (i 0) ⟨1568 + (i 1).val, by have h : (i 1).val < 512 := (i 1).isLt; omega⟩

/-- The columns of the gates. -/
def Ggate (x : FVec Ideal S16x2048x1024 .f32) (g : FVec Ideal S2x1024 .f32) (w : FVec Ideal S2x1024x6912 .f32) : FVec Ideal S32768x3072 .bf16 := fun i =>
  tok x g w (i 0) ⟨3840 + (i 1).val, by have h : (i 1).val < 3072 := (i 1).isLt; omega⟩

/-- A block's entry is its token's projection on the column of the padded weights. -/
theorem entry_tok (c : Dev nD) (t : Fin cfg0.N) (R : Fin 512) (C : Fin 7040) (n : Fin 32768) (j : Fin 6912) (hn : n.val = 512 * t.val + R.val)
    (hw : ∀ k, padded (m ((c : Thread nD τ).loc main_arg2)) (ix3 0 k C) = (m ((c : Thread nD τ).loc main_arg2) : FVec Ideal S2x1024x6912 .f32) (ix3 0 k j)) :
    entry (iblk m c 0 t) (iblk m c 3 t) (iblk m c 4 t) R C
      = tok (m ((c : Thread nD τ).loc main_arg0)) (m ((c : Thread nD τ).loc main_arg1)) (m ((c : Thread nD τ).loc main_arg2)) n j :=
  proj_congr (fun k => blk0 m c t R k _ _ ((Nat.div_add_mod _ _).trans hn)) (fun k => blk3 m c t k) (fun k => (blk4 m c t k C).trans (hw k))

theorem entry_zero (c : Dev nD) (t : Fin cfg0.N) (R : Fin 512) (C : Fin 7040) (h : 1568 ≤ C.val) (h' : C.val < 1664) :
    entry (iblk m c 0 t) (iblk m c 3 t) (iblk m c 4 t) R C = 0 :=
  (proj_congr (fun _ => rfl) (fun _ => rfl) (fun k => (blk4 m c t k C).trans (padded_zero _ k C h h'))).trans (proj_zero _ _)

/-- A block's entry in the first array, at the array's index. -/
theorem at20 (c : Dev nD) (t : Fin cfg0.N) (R : Fin 512) (q : Fin 1664) (i : S32768x1664.Idx) (h0 : (i 0 : Fin 32768).val = 512 * t.val + R.val) (h1 : (i 1 : Fin 1664).val = q.val) :
    entry (iblk m c 0 t) (iblk m c 3 t) (iblk m c 4 t) R ⟨0 + q.val, by omega⟩
      = Ggla (m ((c : Thread nD τ).loc main_arg0)) (m ((c : Thread nD τ).loc main_arg1)) (m ((c : Thread nD τ).loc main_arg2)) i := by
  unfold Ggla
  split
  · rename_i h
    have h' : (i 1 : Fin 1664).val < 1568 := h
    exact entry_tok m c t _ _ _ _ h0 fun k => padded_gla _ k _ _ (show 0 + q.val < 1568 by omega) (show (i 1 : Fin 1664).val = 0 + q.val by omega)
  · rename_i h
    have h' : ¬ (i 1 : Fin 1664).val < 1568 := h
    exact entry_zero m c t _ _ (show 1568 ≤ 0 + q.val by omega) (show 0 + q.val < 1664 by omega)

/-- A block's entry in the second array. -/
theorem at21 (c : Dev nD) (t : Fin cfg0.N) (R : Fin 512) (q : Fin 512) (i : S32768x512.Idx) (h0 : (i 0 : Fin 32768).val = 512 * t.val + R.val) (h1 : (i 1 : Fin 512).val = q.val) :
    entry (iblk m c 0 t) (iblk m c 3 t) (iblk m c 4 t) R ⟨1664 + q.val, by omega⟩
      = Gfnet (m ((c : Thread nD τ).loc main_arg0)) (m ((c : Thread nD τ).loc main_arg1)) (m ((c : Thread nD τ).loc main_arg2)) i :=
  entry_tok m c t _ _ _ _ h0 fun k => padded_fnet _ k _ _ (show 1664 ≤ 1664 + q.val by omega) (show 1664 + q.val < 2176 by omega)
    (show 1568 + (i 1 : Fin 512).val + 96 = 1664 + q.val by omega)

/-- A block's entry in the third array. -/
theorem at22 (c : Dev nD) (t : Fin cfg0.N) (R : Fin 512) (q : Fin 3072) (i : S32768x3072.Idx) (h0 : (i 0 : Fin 32768).val = 512 * t.val + R.val) (h1 : (i 1 : Fin 3072).val = q.val) :
    entry (iblk m c 0 t) (iblk m c 3 t) (iblk m c 4 t) R ⟨3968 + q.val, by omega⟩
      = Ggate (m ((c : Thread nD τ).loc main_arg0)) (m ((c : Thread nD τ).loc main_arg1)) (m ((c : Thread nD τ).loc main_arg2)) i :=
  entry_tok m c t _ _ _ _ h0 fun k => padded_gate _ k _ _ (show 3968 ≤ 3968 + q.val by omega)
    (show 3840 + (i 1 : Fin 3072).val + 128 = 3968 + q.val by omega)

theorem row20 (t : Fin cfg0.N) (y : S512x1664.Idx) : (((win0_20.blk t).view.emb y 0 : Fin 32768) : ℕ) = 512 * t.val + (y 0).val := by
  blk_simp [idx t]
  try omega

theorem col20 (t : Fin cfg0.N) (y : S512x1664.Idx) : (((win0_20.blk t).view.emb y 1 : Fin 1664) : ℕ) = (y 1).val := by
  blk_simp [idx t]
  try omega

set_option maxHeartbeats 2000000 in
/-- The array that window 20 leaves. -/
theorem final20 (c : Dev nD) : (dats m 0 c).arrAt 20 (cfgs 0).N
    = Ggla (m ((c : Thread nD τ).loc main_arg0)) (m ((c : Thread nD τ).loc main_arg1)) (m ((c : Thread nD τ).loc main_arg2)) := by
  refine (dats m 0 c).arrAt_eq_of_covers 20 _ (by decide +kernel) fun t _ y => ?_
  blk_simp
  rw [after0_20]
  unfold outsAt0
  frame_out
  refine Eq.trans ?_ (at20 m c t (y 0) (y 1) _ (row20 t y) (col20 t y))
  canon_tiles x h using View.cover_of_tiledBy _ ![256, 128] (by sl_kernel_rfl) y
  case piece0 => exact tile_at' _ _ _ _ _ _ _ x _ _ (by omega) (by show 0 + (y 1).val = _; omega)
  case piece4 => exact tile_at' _ _ _ _ _ _ _ x _ _ (by omega) (by show 0 + (y 1).val = _; omega)
  all_goals exact tile_at _ _ _ _ _ _ _ x _ _ (by omega) (by show 0 + (y 1).val = _; omega)

theorem row21 (t : Fin cfg0.N) (y : S512x512.Idx) : (((win0_21.blk t).view.emb y 0 : Fin 32768) : ℕ) = 512 * t.val + (y 0).val := by
  blk_simp [idx t]
  try omega

theorem col21 (t : Fin cfg0.N) (y : S512x512.Idx) : (((win0_21.blk t).view.emb y 1 : Fin 512) : ℕ) = (y 1).val := by
  blk_simp [idx t]
  try omega

set_option maxHeartbeats 2000000 in
/-- The array that window 21 leaves. -/
theorem final21 (c : Dev nD) : (dats m 0 c).arrAt 21 (cfgs 0).N
    = Gfnet (m ((c : Thread nD τ).loc main_arg0)) (m ((c : Thread nD τ).loc main_arg1)) (m ((c : Thread nD τ).loc main_arg2)) := by
  refine (dats m 0 c).arrAt_eq_of_covers 21 _ (by decide +kernel) fun t _ y => ?_
  blk_simp
  rw [after0_21]
  unfold outsAt0
  frame_out
  refine Eq.trans ?_ (at21 m c t (y 0) (y 1) _ (row21 t y) (col21 t y))
  canon_tiles x h
  all_goals exact tile_at _ _ _ _ _ _ _ x _ _ (by omega) (by show 1664 + (y 1).val = _; omega)

theorem row22 (t : Fin cfg0.N) (y : S512x3072.Idx) : (((win0_22.blk t).view.emb y 0 : Fin 32768) : ℕ) = 512 * t.val + (y 0).val := by
  blk_simp [idx t]
  try omega

theorem col22 (t : Fin cfg0.N) (y : S512x3072.Idx) : (((win0_22.blk t).view.emb y 1 : Fin 3072) : ℕ) = (y 1).val := by
  blk_simp [idx t]
  try omega

set_option maxHeartbeats 2000000 in
/-- The array that window 22 leaves. -/
theorem final22 (c : Dev nD) : (dats m 0 c).arrAt 22 (cfgs 0).N
    = Ggate (m ((c : Thread nD τ).loc main_arg0)) (m ((c : Thread nD τ).loc main_arg1)) (m ((c : Thread nD τ).loc main_arg2)) := by
  refine (dats m 0 c).arrAt_eq_of_covers 22 _ (by decide +kernel) fun t _ y => ?_
  blk_simp
  rw [after0_22]
  unfold outsAt0
  frame_out
  refine Eq.trans ?_ (at22 m c t (y 0) (y 1) _ (row22 t y) (col22 t y))
  canon_tiles x h
  all_goals exact tile_at _ _ _ _ _ _ _ x _ _ (by omega) (by show 3968 + (y 1).val = _; omega)

end Cert.Kernel3Ideal.Inproj

end
-- ==== Proof.Inproj.Reference.lean ====
/-
  What the in-projection's reference computes, entry by entry.
-/
module

public import proofs.«01_k».proof.Proof.Gen.Reference3Ideal.Run
public import Idealize.ShloMosaic.Lib.Pipeline.ValueKit
public import Idealize.ShloMosaic.Lib.Pointwise
public import proofs.«01_k».proof.Proof.Inproj.Spec

/-! The in-projection's reference: each of its three results at an index. -/

@[expose] public section
set_option maxRecDepth 16384
noncomputable section
namespace Cert.Reference3Ideal.Value
open Cert.Reference3Ideal Cert.Reference3Ideal.Gen Idealize.ShloMosaic Idealize.ShloMosaic.TcCoe Idealize.SL.Sem
open Cert.FfnSpec (rmsn)
open Cert.InprojSpec

/-- The normed tokens. -/
def rNorm (x : FVec Ideal S16x2048x1024 .f32) (g : FVec Ideal S2x1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 (shapeCast S1024 (extractStridedSlice S1x1024 ![0, 0] g slices_S2x1024_S1x1024_0_0) shapeCasts_S1x1024_S1024)))

/-- The tokens' projections on every column. -/
def rProj (x : FVec Ideal S16x2048x1024 .f32) (g : FVec Ideal S2x1024 .f32) (w : FVec Ideal S2x1024x6912 .f32) : FVec Ideal S16x2048x6912 .f32 :=
  Host.dotGeneral dot_S16x2048x1024_S1024x6912_S16x2048x6912_2_0_01_1_n_n none (rNorm x g)
    (shapeCast S1024x6912 (extractStridedSlice S1x1024x6912 ![0, 0, 0] w slices_S2x1024x6912_S1x1024x6912_0_0_0) shapeCasts_S1x1024x6912_S1024x6912)

/-- The projections, a token a row. -/
def rAll (x : FVec Ideal S16x2048x1024 .f32) (g : FVec Ideal S2x1024 .f32) (w : FVec Ideal S2x1024x6912 .f32) : FVec Ideal S32768x6912 .bf16 :=
  truncf .bf16 (shapeCast S32768x6912 (rProj x g w) shapeCasts_S16x2048x6912_S32768x6912) bitsLt_bf16_f32

def rGla (x : FVec Ideal S16x2048x1024 .f32) (g : FVec Ideal S2x1024 .f32) (w : FVec Ideal S2x1024x6912 .f32) : FVec Ideal S32768x1664 .bf16 :=
  pad S32768x1664 ![0, 0] ![0, 96] ![0, 0] (extractStridedSlice S32768x1568 ![0, 0] (rAll x g w) slices_S32768x6912_S32768x1568_0_0) (sitofp .bf16 (constantI S_ 32 0#32) : FVec Ideal S_ .bf16)
    pads_S32768x1568_S32768x1664_000_0960 h_S_

def rFnet (x : FVec Ideal S16x2048x1024 .f32) (g : FVec Ideal S2x1024 .f32) (w : FVec Ideal S2x1024x6912 .f32) : FVec Ideal S32768x512 .bf16 :=
  extractStridedSlice S32768x512 ![0, 1568] (rAll x g w) slices_S32768x6912_S32768x512_0_1568

def rGate (x : FVec Ideal S16x2048x1024 .f32) (g : FVec Ideal S2x1024 .f32) (w : FVec Ideal S2x1024x6912 .f32) : FVec Ideal S32768x3072 .bf16 :=
  extractStridedSlice S32768x3072 ![0, 3840] (rAll x g w) slices_S32768x6912_S32768x3072_0_3840

theorem rNorm_apply (x : FVec Ideal S16x2048x1024 .f32) (g : FVec Ideal S2x1024 .f32) (b : Fin 16) (s : Fin 2048) (k : Fin 1024) :
    rNorm x g (ix3 b s k) = rmsn (fun k => x (ix3 b s k)) (fun k => g (ix2 0 k)) k := by
  pointwise [rNorm, rmsn]

theorem rProj_apply (x : FVec Ideal S16x2048x1024 .f32) (g : FVec Ideal S2x1024 .f32) (w : FVec Ideal S2x1024x6912 .f32) (b : Fin 16) (s : Fin 2048) (j : Fin 6912) :
    rProj x g w (ix3 b s j) = proj (fun k => x (ix3 b s k)) (fun k => g (ix2 0 k)) (fun k => w (ix3 0 k j)) := by
  pointwise [rProj, proj, rNorm_apply]

/-- Token `n` on column `j`. -/
theorem rAll_apply (x : FVec Ideal S16x2048x1024 .f32) (g : FVec Ideal S2x1024 .f32) (w : FVec Ideal S2x1024x6912 .f32) (n : Fin 32768) (j : Fin 6912) :
    rAll x g w (ix2 n j) = proj (fun k => x (ix3 ⟨n.val / 2048, Nat.div_lt_of_lt_mul n.isLt⟩ ⟨n.val % 2048, Nat.mod_lt _ (by decide)⟩ k)) (fun k => g (ix2 0 k)) (fun k => w (ix3 0 k j)) := by
  refine Eq.trans ?_ (rProj_apply x g w _ _ j)
  show shapeCast S32768x6912 (rProj x g w) shapeCasts_S16x2048x6912_S32768x6912 (ix2 n j) = _
  refine shapeCast_apply _ _ _ _ ?_
  rw [Shape.rowMajor_val_three, Shape.rowMajor_val_two]
  simp [ix3, ix2]
  omega

theorem rGla_apply (x : FVec Ideal S16x2048x1024 .f32) (g : FVec Ideal S2x1024 .f32) (w : FVec Ideal S2x1024x6912 .f32) (n : Fin 32768) (j : Fin 1664) :
    rGla x g w (ix2 n j) = if h : j.val < 1568 then rAll x g w (ix2 n ⟨j.val, by omega⟩) else 0 := by
  pointwise [rGla]
  have z : FloatOps.sitofp (F := Ideal) .bf16 (0#32) = (0 : EReal) := by simp [FloatOps.sitofp]
  rw [z]

theorem rFnet_apply (x : FVec Ideal S16x2048x1024 .f32) (g : FVec Ideal S2x1024 .f32) (w : FVec Ideal S2x1024x6912 .f32) (n : Fin 32768) (j : Fin 512) :
    rFnet x g w (ix2 n j) = rAll x g w (ix2 n ⟨1568 + j.val, by omega⟩) := by
  pointwise [rFnet]

theorem rGate_apply (x : FVec Ideal S16x2048x1024 .f32) (g : FVec Ideal S2x1024 .f32) (w : FVec Ideal S2x1024x6912 .f32) (n : Fin 32768) (j : Fin 3072) :
    rGate x g w (ix2 n j) = rAll x g w (ix2 n ⟨3840 + j.val, by omega⟩) := by
  pointwise [rGate]

end Cert.Reference3Ideal.Value

end
-- ==== Proof.Inproj.Claims.lean ====
/-
  The in-projection: its frames, its reference's frame, and the two programs' equal results.
-/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Inproj.Kernel
public import proofs.«01_k».proof.Proof.Inproj.Reference
public import Idealize.ShloMosaic.Adequacy
public import Idealize.ShloMosaic.Init

@[expose] public section

noncomputable section

namespace Cert.InprojClaims

open Idealize.ShloMosaic Idealize.ShloMosaic.TcCoe Idealize.SL.Sem

/-- A statement holds where one equal to it does. -/
theorem of_same {P Q : Prop} (h : P) (e : P = Q) : Q := e ▸ h

open Cert.Kernel3Ideal in
/-- The kernel runs and leaves its arguments, and every semaphore counter at zero: the two programs have one text. -/
theorem frame_kernel : Cert.quiescent_Kernel3 (hKernel3 := Cert.Kernel3.Gen.facts) :=
  of_same (fun (m : (ℓ : Loc nD τ sig) → Buf (Elt Bits) ℓ) (ρ : Dev nD → PrngReg) (_ : True) => Cert.Kernel3Ideal.Inproj.frame (F := Bits) m ρ) (by sl_kernel_rfl)

/-- So does the kernel over the extended reals. -/
theorem frame_ideal : Cert.quiescent_Kernel3Ideal (hKernel3Ideal := Cert.Kernel3Ideal.Gen.facts) := fun m ρ _ =>
  Cert.Kernel3Ideal.Inproj.frame (F := Ideal) m ρ

/-- The reference runs and leaves its arguments, and every semaphore counter at zero. -/
theorem frame_reference : Cert.quiescent_Reference3Ideal (hReference3Ideal := Cert.Reference3Ideal.Gen.facts) := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

open Cert.Kernel3Ideal Cert.Kernel3Ideal.Gen in
/-- The kernel's run leaves the three arrays of projected columns, and its arguments as they were. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v85_0) = Inproj.Ggla (m ((c.tc : Thread nD τ).loc main_arg0)) (m ((c.tc : Thread nD τ).loc main_arg1)) (m ((c.tc : Thread nD τ).loc main_arg2))
      ∧ r.2.mem ((c.tc : Thread nD τ).loc main_v85_1) = Inproj.Gfnet (m ((c.tc : Thread nD τ).loc main_arg0)) (m ((c.tc : Thread nD τ).loc main_arg1)) (m ((c.tc : Thread nD τ).loc main_arg2))
      ∧ r.2.mem ((c.tc : Thread nD τ).loc main_v85_2) = Inproj.Ggate (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 20).trans (Inproj.final20 m c), ((h c).1 21).trans (Inproj.final21 m c), ((h c).1 22).trans (Inproj.final22 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩)
    (Inproj.run_main (F := Ideal) m ρ)

theorem gla_same (x : FVec Ideal Cert.Reference3Ideal.S16x2048x1024 .f32) (g : FVec Ideal Cert.Reference3Ideal.S2x1024 .f32) (w : FVec Ideal Cert.Reference3Ideal.S2x1024x6912 .f32) :
    Cert.Reference3Ideal.Value.rGla x g w = Cert.Kernel3Ideal.Inproj.Ggla x g w := by
  funext i
  refine (congrArg _ (show i = ix2 (i 0) (i 1) from by funext a; fin_cases a <;> rfl)).trans ((Cert.Reference3Ideal.Value.rGla_apply x g w (i 0) (i 1)).trans ?_)
  unfold Cert.Kernel3Ideal.Inproj.Ggla
  split
  · rename_i h
    exact Cert.Reference3Ideal.Value.rAll_apply x g w _ _
  · rename_i h
    rfl

theorem fnet_same (x : FVec Ideal Cert.Reference3Ideal.S16x2048x1024 .f32) (g : FVec Ideal Cert.Reference3Ideal.S2x1024 .f32) (w : FVec Ideal Cert.Reference3Ideal.S2x1024x6912 .f32) :
    Cert.Reference3Ideal.Value.rFnet x g w = Cert.Kernel3Ideal.Inproj.Gfnet x g w := by
  funext i
  refine (congrArg _ (show i = ix2 (i 0) (i 1) from by funext a; fin_cases a <;> rfl)).trans ((Cert.Reference3Ideal.Value.rFnet_apply x g w (i 0) (i 1)).trans ?_)
  exact Cert.Reference3Ideal.Value.rAll_apply x g w _ _

theorem gate_same (x : FVec Ideal Cert.Reference3Ideal.S16x2048x1024 .f32) (g : FVec Ideal Cert.Reference3Ideal.S2x1024 .f32) (w : FVec Ideal Cert.Reference3Ideal.S2x1024x6912 .f32) :
    Cert.Reference3Ideal.Value.rGate x g w = Cert.Kernel3Ideal.Inproj.Ggate x g w := by
  funext i
  refine (congrArg _ (show i = ix2 (i 0) (i 1) from by funext a; fin_cases a <;> rfl)).trans ((Cert.Reference3Ideal.Value.rGate_apply x g w (i 0) (i 1)).trans ?_)
  exact Cert.Reference3Ideal.Value.rAll_apply x g w _ _

/-- From equal arguments the two programs end with equal results. -/
theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => Cert.Kernel3Ideal.Inproj.Ggla (m ((c.tc : Thread _ _).loc Cert.Kernel3Ideal.main_arg0)) (m ((c.tc : Thread _ _).loc Cert.Kernel3Ideal.main_arg1)) (m ((c.tc : Thread _ _).loc Cert.Kernel3Ideal.main_arg2)),
    fun c => Cert.Kernel3Ideal.Inproj.Gfnet (m ((c.tc : Thread _ _).loc Cert.Kernel3Ideal.main_arg0)) (m ((c.tc : Thread _ _).loc Cert.Kernel3Ideal.main_arg1)) (m ((c.tc : Thread _ _).loc Cert.Kernel3Ideal.main_arg2)),
    fun c => Cert.Kernel3Ideal.Inproj.Ggate (m ((c.tc : Thread _ _).loc Cert.Kernel3Ideal.main_arg0)) (m ((c.tc : Thread _ _).loc Cert.Kernel3Ideal.main_arg1)) (m ((c.tc : Thread _ _).loc Cert.Kernel3Ideal.main_arg2)), run_kernel m ρ, ?_⟩
  refine (θ_run Cert.Reference3Ideal.defs _ _).mono (fun _ h c => ⟨(h c).1.trans ?_, (h c).2.1.trans ?_, (h c).2.2.1.trans ?_, (h c).2.2.2⟩)
    (Cert.Reference3Ideal.Value.run (F := Ideal) m' ρ')
  all_goals
    obtain ⟨e0, e1, e2, -⟩ := hagree c
    beta_reduce
    rw [← e0, ← e1, ← e2]
  · exact gla_same _ _ _
  · exact fnet_same _ _ _
  · exact gate_same _ _ _

end Cert.InprojClaims

end
-- ==== Proof.Merge.Spec.lean ====
/-
  One token's merged row over the extended reals, and the laws of sums that the kernel needs of it.
-/
module

public import Idealize.ShloMosaic.Lib.Pipeline.ValueKit
public import Idealize.ShloMosaic.Lib.Pointwise
public import proofs.«01_k».proof.Proof.Ffn.Spec

/-! What the merge of the three branches computes of one token, and why the kernel's way of averaging over a head
    agrees with the reference's at every extended real. -/

@[expose] public section
noncomputable section
namespace Cert.MergeSpec
open Idealize.ShloMosaic

/-- 64, as the programs write it. -/
abbrev c64 : EReal := Ideal.ofBits .f32 0x42800000#32
/-- One sixty-fourth. -/
abbrev w64 : EReal := ((1 / 64 : ℝ) : EReal)
/-- 128, as the programs write it. -/
abbrev c128 : EReal := Ideal.ofBits .f32 0x43000000#32
/-- The constant of the norm of a head. -/
abbrev eps6 : EReal := Ideal.ofBits .f32 0x358637BD#32
/-- The constant of the layer norm of a group. -/
abbrev epsL : EReal := Ideal.ofBits .f32 0x3A27C5AC#32

/-- Channel `k` of the head of 128 channels that channel `c` is in. -/
def hd (c : Fin 512) (k : Fin 128) : Fin 512 := ⟨128 * (c.val / 128) + k.val, by omega⟩
/-- Channel `k` of the group of 64 channels that channel `c` is in. -/
def gp (c : Fin 512) (k : Fin 64) : Fin 512 := ⟨64 * (c.val / 64) + k.val, by omega⟩

/-- A row divided, head by head, by the root of the head's mean square. -/
def headNorm (o : Fin 512 → EReal) (c : Fin 512) : EReal :=
  o c * Ideal.rsqrt (Ideal.div (∑ k, o (hd c k) * o (hd c k)) c128 + eps6)

/-- The first branch: the normed heads with their gain and their gate. -/
def glaRow (o g r : Fin 512 → EReal) (c : Fin 512) : EReal := headNorm o c * g c * (r c * Ideal.logistic (r c))

/-- The mean of the group of channel `c`. -/
def mean (y : Fin 512 → EReal) (c : Fin 512) : EReal := Ideal.div (∑ k, y (gp c k)) c64

/-- A row less its group's mean `μ`, over the root of the mean square of what is left. -/
def lnBy (μ : EReal) (y : Fin 64 → EReal) (x : EReal) : EReal :=
  (x - μ) * Ideal.rsqrt (Ideal.div (∑ k, (y k - μ) * (y k - μ)) c64 + epsL)

/-- The third branch: the layer norm of each group, with its gain and shift, the bonus added, times the gate. -/
def rwkvRow (y g b bonus gate : Fin 512 → EReal) (c : Fin 512) : EReal :=
  (lnBy (mean y c) (fun k => y (gp c k)) (y c) * g c + b c + bonus c) * gate c

/-- The three branches projected, gated, added up, projected again and added to the row `x`. -/
def row (x : Fin 1024 → EReal) (ya yb yc : Fin 512 → EReal) (z : Fin 3072 → EReal) (pa pb pc : Fin 512 → Fin 1024 → EReal)
    (wo : Fin 1024 → Fin 1024 → EReal) (l : Fin 1024) : EReal :=
  x l + ∑ j, (Ideal.logistic (z ⟨j.val, by omega⟩) * (∑ k, ya k * pa k j) + Ideal.logistic (z ⟨1024 + j.val, by omega⟩) * (∑ k, yb k * pb k j)
    + Ideal.logistic (z ⟨2048 + j.val, by omega⟩) * (∑ k, yc k * pc k j)) * wo j l

theorem row_congr {x x' : Fin 1024 → EReal} {ya ya' yb yb' yc yc' : Fin 512 → EReal} {z z' : Fin 3072 → EReal} {pa pa' pb pb' pc pc' : Fin 512 → Fin 1024 → EReal}
    {wo wo' : Fin 1024 → Fin 1024 → EReal} {l l' : Fin 1024} (hx : ∀ k, x k = x' k) (ha : ∀ k, ya k = ya' k) (hb : ∀ k, yb k = yb' k) (hc : ∀ k, yc k = yc' k)
    (hz : ∀ k, z k = z' k) (hpa : ∀ k j, pa k j = pa' k j) (hpb : ∀ k j, pb k j = pb' k j) (hpc : ∀ k j, pc k j = pc' k j) (hw : ∀ k j, wo k j = wo' k j)
    (hl : l = l') : row x ya yb yc z pa pb pc wo l = row x' ya' yb' yc' z' pa' pb' pc' wo' l' := by
  rw [funext hx, funext ha, funext hb, funext hc, funext hz, funext fun k => funext (hpa k), funext fun k => funext (hpb k), funext fun k => funext (hpc k),
    funext fun k => funext (hw k), hl]

/-- The row that token `s` of sequence `b`, the `n`-th of all, gets from the arrays. -/
def tokRow (x : Fin 16 → Fin 2048 → Fin 1024 → EReal) (gf gb yf rf rb : Fin 16 → Fin 2048 → Fin 512 → EReal) (zg : Fin 32768 → Fin 1664 → EReal)
    (tk : Fin 32768 → Fin 1536 → EReal) (zt : Fin 32768 → Fin 3072 → EReal) (gn lg lb : Fin 512 → EReal) (pa pb pc : Fin 512 → Fin 1024 → EReal)
    (wo : Fin 1024 → Fin 1024 → EReal) (b : Fin 16) (s : Fin 2048) (n : Fin 32768) : Fin 1024 → EReal :=
  row (x b s) (glaRow (fun k => gf b s k + gb b s k) gn fun k => zg n ⟨1024 + k.val, by omega⟩) (yf b s)
    (rwkvRow (fun k => rf b s k + rb b s k) lg lb (fun k => tk n ⟨512 + k.val, by omega⟩) fun k => tk n ⟨1024 + k.val, by omega⟩) (zt n) pa pb pc wo

theorem c64_eq : c64 = ((64 : ℝ) : EReal) := by
  simp [c64, Ideal.ofBits, Ideal.ieee, -EReal.coe_mul]; norm_num

theorem epsL_real : ∃ r : ℝ, epsL = (r : EReal) := by
  simp only [epsL, Ideal.ofBits, Ideal.ieee]
  simp [-EReal.coe_mul]

theorem div_c64 (x : EReal) : Ideal.div x c64 = x * w64 := by
  have h : c64 ≠ 0 := by rw [c64_eq]; exact_mod_cast (by norm_num : (64 : ℝ) ≠ 0)
  unfold Ideal.div
  rw [if_neg h, c64_eq, ← EReal.coe_inv]
  norm_num

theorem sum_mul_w {ι : Type} (s : Finset ι) (f : ι → EReal) : ∑ k ∈ s, f k * w64 = (∑ k ∈ s, f k) * w64 := by
  classical
  induction s using Finset.induction_on with
  | empty => simp
  | insert a s ha ih =>
    rw [Finset.sum_insert ha, Finset.sum_insert ha, ih]
    exact (EReal.right_distrib_of_nonneg_of_ne_top (by exact_mod_cast (by norm_num : (0 : ℝ) ≤ 1 / 64)) (EReal.coe_ne_top _) _ _).symm

theorem sum_bot {ι : Type} [Fintype ι] (f : ι → EReal) (j : ι) (h : f j = ⊥) : ∑ k, f k = ⊥ := by
  classical
  rw [← Finset.add_sum_erase _ _ (Finset.mem_univ j), h, EReal.bot_add]

theorem sum_top {ι : Type} [Fintype ι] (f : ι → EReal) (j : ι) (h : f j = ⊤) (hb : ∀ k, f k ≠ ⊥) : ∑ k, f k = ⊤ := by
  classical
  rw [← Finset.add_sum_erase _ _ (Finset.mem_univ j), h]
  refine EReal.top_add_of_ne_bot ?_
  generalize Finset.univ.erase j = s
  induction s using Finset.induction_on with
  | empty => simp
  | insert a s ha ih =>
    rw [Finset.sum_insert ha]
    exact fun e => (EReal.add_eq_bot_iff.mp e).elim (hb a) ih

/-- About an infinite mean the layer norm is zero. -/
theorem lnBy_inf (μ : EReal) (hμ : μ = ⊤ ∨ μ = ⊥) (y : Fin 64 → EReal) (x : EReal) : lnBy μ y x = 0 := by
  have hs : ∀ z : EReal, (z - μ) * (z - μ) = ⊤ := by
    intro z
    rcases hμ with h | h <;> subst h <;> induction z <;> simp [sub_eq_add_neg]
  have h : Ideal.rsqrt (Ideal.div (∑ k, (y k - μ) * (y k - μ)) c64 + epsL) = 0 := by
    rw [sum_top _ 0 (hs _) (fun k => by rw [hs]; simp), div_c64]
    rw [EReal.top_mul_coe_of_pos (by norm_num)]
    obtain ⟨r, hr⟩ := epsL_real
    rw [hr, EReal.top_add_coe, Ideal.rsqrt_top]
  unfold lnBy
  rw [h, mul_zero]

/-- The kernel's mean — of the values, and of the values less themselves, each times one sixty-fourth — does as well as the mean. -/
theorem lnBy_split (y : Fin 64 → EReal) (x : EReal) :
    lnBy (∑ k, y k * w64 + ∑ k, (y k - y k) * w64) y x = lnBy (Ideal.div (∑ k, y k) c64) y x := by
  rw [sum_mul_w, sum_mul_w, div_c64]
  by_cases hf : ∀ k, y k ≠ ⊤ ∧ y k ≠ ⊥
  · have h0 : ∑ k, (y k - y k) = 0 := Finset.sum_eq_zero fun k _ => EReal.sub_self (hf k).1 (hf k).2
    rw [h0, zero_mul, add_zero]
  · have hw : ∀ z : EReal, z = ⊤ ∨ z = ⊥ → z * w64 = z := by
      rintro z (rfl | rfl)
      · exact EReal.top_mul_coe_of_pos (by norm_num)
      · exact EReal.bot_mul_coe_of_pos (by norm_num)
    obtain ⟨j, hj⟩ := not_forall.mp hf
    have hj' : y j = ⊤ ∨ y j = ⊥ := by
      by_contra h
      exact hj ⟨fun e => h (.inl e), fun e => h (.inr e)⟩
    have hd : ∑ k, (y k - y k) = ⊥ := sum_bot _ j (by rcases hj' with h | h <;> rw [h] <;> simp [sub_eq_add_neg])
    have hs : ∑ k, y k = ⊤ ∨ ∑ k, y k = ⊥ := by
      by_cases hb : ∃ k, y k = ⊥
      · obtain ⟨k, hk⟩ := hb
        exact .inr (sum_bot _ k hk)
      · exact .inl (sum_top _ j (hj'.resolve_right fun e => hb ⟨j, e⟩) fun k e => hb ⟨k, e⟩)
    rw [hd, hw ⊥ (.inr rfl), EReal.add_bot, hw _ hs, lnBy_inf _ (.inr rfl), lnBy_inf _ hs]

/-- A sum over a head's channels against the averaging matrix's column is the sum over the group's. -/
theorem sum_group (f : Fin 512 → EReal) (c : Fin 512) (w : Fin 128 → EReal) (a : EReal)
    (hw : ∀ k : Fin 128, w k = if k.val / 64 = c.val % 128 / 64 then a else 0) :
    ∑ k, f (hd c k) * w k = ∑ k, f (gp c k) * a := by
  rw [Fin.sum_univ_two_halves 64 64 rfl]
  simp only [hw]
  have hc : c.val % 128 / 64 = 0 ∨ c.val % 128 / 64 = 1 := by omega
  rcases hc with h | h
  · rw [h]
    have e2 : ∀ k : Fin 64, ¬ (64 + k.val) / 64 = 0 := fun k => by omega
    have e1 : ∀ k : Fin 64, k.val / 64 = 0 := fun k => by omega
    simp only [e1, e2, if_true, if_false, mul_zero, Finset.sum_const_zero, add_zero]
    refine Finset.sum_congr rfl fun k _ => ?_
    congr 2
    simp only [hd, gp, Fin.mk.injEq]
    omega
  · rw [h]
    have e2 : ∀ k : Fin 64, (64 + k.val) / 64 = 1 := fun k => by omega
    have e1 : ∀ k : Fin 64, ¬ k.val / 64 = 1 := fun k => by omega
    simp only [e1, e2, if_true, if_false, mul_zero, Finset.sum_const_zero, zero_add]
    refine Finset.sum_congr rfl fun k _ => ?_
    congr 2
    simp only [hd, gp, Fin.mk.injEq]
    omega

end Cert.MergeSpec
-- ==== Proof.Merge.Kernel.lean ====
/-
  What the merge leaves: each tile of tokens, entry by entry.
-/
module

public import proofs.«01_k».proof.Proof.Gen.Kernel4Ideal.Value
public import Idealize.ShloMosaic.Lib.Pipeline.ValueKit
public import Idealize.ShloMosaic.Lib.Pointwise
public import proofs.«01_k».proof.Proof.Ffn.Spec
public import proofs.«01_k».proof.Proof.Merge.Spec

/-! The merge kernel: its blocks' payload at an index, and the array its run leaves. -/

@[expose] public section
set_option maxRecDepth 16384
noncomputable section
namespace Cert.Kernel4Ideal.Value
open Cert.Kernel4Ideal Cert.Kernel4Ideal.Gen Idealize.ShloMosaic Idealize.ShloMosaic.TcCoe Idealize.SL.Sem
open Cert.FfnSpec (gate_eq)
open Cert.MergeSpec

/-- Four tiles side by side, each the columns of `P` that it stands at, are `P`. -/
theorem cat4 (f0 f1 f2 f3 : FVec Ideal S512x128 .f32) (P : Fin 512 → EReal) (r : Fin 512)
    (h0 : ∀ k : Fin 128, f0 (ix2 r k) = P ⟨k.val, by omega⟩) (h1 : ∀ k : Fin 128, f1 (ix2 r k) = P ⟨128 + k.val, by omega⟩)
    (h2 : ∀ k : Fin 128, f2 (ix2 r k) = P ⟨256 + k.val, by omega⟩) (h3 : ∀ k : Fin 128, f3 (ix2 r k) = P ⟨384 + k.val, by omega⟩) (c : Fin 512) :
    concatenate S512x512 1 [⟨S512x128, f0⟩, ⟨S512x128, f1⟩, ⟨S512x128, f2⟩, ⟨S512x128, f3⟩] concatenates_S512x128_S512x128_S512x128_S512x128_S512x512_d1 (ix2 r c) = P c := by
  pointwise
  split
  · rename_i h; exact h0 ⟨c.val, h⟩
  split
  · rename_i h h'
    refine (h1 ⟨c.val - 128, by omega⟩).trans (congrArg P (Fin.ext ?_))
    show 128 + (c.val - 128) = c.val
    omega
  split
  · rename_i h h' h''
    refine (h2 ⟨c.val - 128 - 128, by omega⟩).trans (congrArg P (Fin.ext ?_))
    show 256 + (c.val - 128 - 128) = c.val
    omega
  · rename_i h h' h''
    refine (h3 ⟨c.val - 128 - 128 - 128, by omega⟩).trans (congrArg P (Fin.ext ?_))
    show 384 + (c.val - 128 - 128 - 128) = c.val
    omega

/-- The last head's tile, normed. -/
def lastHead (v0 v3 : Vec Ideal S512x512 .bf16) : FVec Ideal S512x128 .f32 :=
  mulf (k0_pay6 v0 v3) (broadcastTo S512x128 (rsqrt (addf (divf (k0_pay7 v0 v3) (broadcast S512x1 (Scalar.ofBits .f32 0x43000000#32)))
    (broadcast S512x1 (Scalar.ofBits .f32 0x358637BD#32)))) broadcasts_S512x1_S512x128)

/-- The gain of every row. -/
def gain (v : Vec Ideal S1x1x512 .f32) : FVec Ideal S512x512 .f32 :=
  broadcastTo S512x512 (shapeCast S1x512 v shapeCasts_S1x1x512_S1x512) broadcasts_S1x512_S512x512

/-- The gate of the first branch. -/
def gate (v : Vec Ideal S512x512 .bf16) : FVec Ideal S512x512 .f32 :=
  mulf (extf .f32 v bitsLt_bf16_f32) (addf (mulf (broadcast S512x512 (Scalar.ofBits .f32 0x3F000000#32)) (tanh (mulf (broadcast S512x512 (Scalar.ofBits .f32 0x3F000000#32))
    (extf .f32 v bitsLt_bf16_f32)))) (broadcast S512x512 (Scalar.ofBits .f32 0x3F000000#32)))

theorem gain_apply (v : Vec Ideal S1x1x512 .f32) (r c : Fin 512) : gain v (ix2 r c) = v (ix3 0 0 c) := by
  pointwise [gain]

theorem gate_apply (v : Vec Ideal S512x512 .bf16) (r c : Fin 512) : gate v (ix2 r c) = v (ix2 r c) * Ideal.logistic (v (ix2 r c)) := by
  pointwise [gate]
  simp only [gate_eq]

theorem gla_eq (v0 v3 v51 : Vec Ideal S512x512 .bf16) (v54 : Vec Ideal S1x1x512 .f32) :
    k0_pay8 (F := Ideal) (k0_pay3 v0 v3) (k0_pay4 v0 v3) (k0_pay5 v0 v3) (k0_pay6 v0 v3) (k0_pay7 v0 v3) (FloatOps.ofBits .f32 1124073472#32) v51 v54
      = mulf (mulf (concatenate S512x512 1 [⟨S512x128, k0_pay3 v0 v3⟩, ⟨S512x128, k0_pay4 v0 v3⟩, ⟨S512x128, k0_pay5 v0 v3⟩, ⟨S512x128, lastHead v0 v3⟩]
          concatenates_S512x128_S512x128_S512x128_S512x128_S512x512_d1) (gain v54)) (gate v51) := rfl

/-- The first branch's payload: each head normed, its gain, its gate. -/
theorem gla_apply (v0 v3 v51 : Vec Ideal S512x512 .bf16) (v54 : Vec Ideal S1x1x512 .f32) (r c : Fin 512) :
    k0_pay8 (F := Ideal) (k0_pay3 v0 v3) (k0_pay4 v0 v3) (k0_pay5 v0 v3) (k0_pay6 v0 v3) (k0_pay7 v0 v3) (FloatOps.ofBits .f32 1124073472#32) v51 v54 (ix2 r c)
      = glaRow (fun k => v0 (ix2 r k) + v3 (ix2 r k)) (fun k => v54 (ix3 0 0 k)) (fun k => v51 (ix2 r k)) c := by
  rw [gla_eq]
  refine (congrArg₂ (· * ·) (congrArg₂ (· * ·) (cat4 _ _ _ _ (headNorm fun k => v0 (ix2 r k) + v3 (ix2 r k)) r
    (fun k => ?_) (fun k => ?_) (fun k => ?_) (fun k => ?_) c) (gain_apply v54 r c)) (gate_apply v51 r c)).trans rfl
  · pointwise [k0_pay3, k0_pay2]
    have e : ∀ x : Fin 128, hd ⟨k.val, by omega⟩ x = ⟨x.val, by omega⟩ := fun x => Fin.ext (by simp [hd]; try omega)
    simp only [headNorm, e]
  · pointwise [k0_pay4, k0_pay2]
    have e : ∀ x : Fin 128, hd ⟨128 + k.val, by omega⟩ x = ⟨128 + x.val, by omega⟩ := fun x => Fin.ext (by simp [hd]; try omega)
    simp only [headNorm, e]
  · pointwise [k0_pay5, k0_pay2]
    have e : ∀ x : Fin 128, hd ⟨256 + k.val, by omega⟩ x = ⟨256 + x.val, by omega⟩ := fun x => Fin.ext (by simp [hd]; try omega)
    simp only [headNorm, e]
  · pointwise [lastHead, k0_pay6, k0_pay7, k0_pay2]
    have e : ∀ x : Fin 128, hd ⟨384 + k.val, by omega⟩ x = ⟨384 + x.val, by omega⟩ := fun x => Fin.ext (by simp [hd]; try omega)
    simp only [headNorm, e]

/-- The sums of the rows of `a`'s tile at column 0 against the matrix `w`. -/
def tile0 (a : FVec Ideal S512x512 .bf16) (w : FVec Ideal S128x128 .bf16) : FVec Ideal S512x128 .f32 :=
  matmul dot_S512x128_S128x128_S512x128_1_0_0_1_n_n none (extractStridedSlice S512x128 ![0, 0] a slices_S512x512_o0_0_S512x128) w (constant S512x128 .f32 0x00000000#32)

/-- The sums of the rows of `a`'s tile at column 128 against the matrix `w`. -/
def tile1 (a : FVec Ideal S512x512 .bf16) (w : FVec Ideal S128x128 .bf16) : FVec Ideal S512x128 .f32 :=
  matmul dot_S512x128_S128x128_S512x128_1_0_0_1_n_n none (extractStridedSlice S512x128 ![0, 128] a slices_S512x512_o0_128_S512x128) w (constant S512x128 .f32 0x00000000#32)

/-- The sums of the rows of `a`'s tile at column 256 against the matrix `w`. -/
def tile2 (a : FVec Ideal S512x512 .bf16) (w : FVec Ideal S128x128 .bf16) : FVec Ideal S512x128 .f32 :=
  matmul dot_S512x128_S128x128_S512x128_1_0_0_1_n_n none (extractStridedSlice S512x128 ![0, 256] a slices_S512x512_o0_256_S512x128) w (constant S512x128 .f32 0x00000000#32)

/-- The sums of the rows of `a`'s tile at column 384 against the matrix `w`. -/
def tile3 (a : FVec Ideal S512x512 .bf16) (w : FVec Ideal S128x128 .bf16) : FVec Ideal S512x128 .f32 :=
  matmul dot_S512x128_S128x128_S512x128_1_0_0_1_n_n none (extractStridedSlice S512x128 ![0, 384] a slices_S512x512_o0_384_S512x128) w (constant S512x128 .f32 0x00000000#32)

/-- The sum that the tile at column `c` holds. -/
def tsum (a : FVec Ideal S512x512 .bf16) (w : FVec Ideal S128x128 .bf16) (r c : Fin 512) : EReal :=
  ∑ k, a (ix2 r (hd c k)) * w (ix2 k ⟨c.val % 128, Nat.mod_lt _ (by decide)⟩)

theorem tile0_apply (a : FVec Ideal S512x512 .bf16) (w : FVec Ideal S128x128 .bf16) (r : Fin 512) (k : Fin 128) : tile0 a w (ix2 r k) = tsum a w r ⟨k.val, by omega⟩ := by
  pointwise [tile0, tsum]
  refine Finset.sum_congr rfl fun j _ => ?_
  congr 3 <;> (apply Fin.ext; simp [hd]; try omega)

theorem tile1_apply (a : FVec Ideal S512x512 .bf16) (w : FVec Ideal S128x128 .bf16) (r : Fin 512) (k : Fin 128) : tile1 a w (ix2 r k) = tsum a w r ⟨128 + k.val, by omega⟩ := by
  pointwise [tile1, tsum]
  refine Finset.sum_congr rfl fun j _ => ?_
  congr 3 <;> (apply Fin.ext; simp [hd]; try omega)

theorem tile2_apply (a : FVec Ideal S512x512 .bf16) (w : FVec Ideal S128x128 .bf16) (r : Fin 512) (k : Fin 128) : tile2 a w (ix2 r k) = tsum a w r ⟨256 + k.val, by omega⟩ := by
  pointwise [tile2, tsum]
  refine Finset.sum_congr rfl fun j _ => ?_
  congr 3 <;> (apply Fin.ext; simp [hd]; try omega)

theorem tile3_apply (a : FVec Ideal S512x512 .bf16) (w : FVec Ideal S128x128 .bf16) (r : Fin 512) (k : Fin 128) : tile3 a w (ix2 r k) = tsum a w r ⟨384 + k.val, by omega⟩ := by
  pointwise [tile3, tsum]
  refine Finset.sum_congr rfl fun j _ => ?_
  congr 3 <;> (apply Fin.ext; simp [hd]; try omega)

theorem tsum_eq (a : FVec Ideal S512x512 .bf16) (w : FVec Ideal S128x128 .bf16) (hw : ∀ k j : Fin 128, w (ix2 k j) = if k.val / 64 = j.val / 64 then w64 else 0)
    (r c : Fin 512) : tsum a w r c = ∑ k, a (ix2 r (gp c k)) * w64 :=
  sum_group (fun k => a (ix2 r k)) c (fun k => w (ix2 k ⟨c.val % 128, Nat.mod_lt _ (by decide)⟩)) w64 fun k => hw k _

/-- The tile sums of `a` side by side. -/
def gsum (a : FVec Ideal S512x512 .bf16) (w : FVec Ideal S128x128 .bf16) : FVec Ideal S512x512 .f32 :=
  concatenate S512x512 1 [⟨S512x128, tile0 a w⟩, ⟨S512x128, tile1 a w⟩, ⟨S512x128, tile2 a w⟩, ⟨S512x128, tile3 a w⟩] concatenates_S512x128_S512x128_S512x128_S512x128_S512x512_d1

theorem gsum_apply (a : FVec Ideal S512x512 .bf16) (w : FVec Ideal S128x128 .bf16) (hw : ∀ k j : Fin 128, w (ix2 k j) = if k.val / 64 = j.val / 64 then w64 else 0)
    (r c : Fin 512) : gsum a w (ix2 r c) = ∑ k, a (ix2 r (gp c k)) * w64 :=
  (cat4 _ _ _ _ (tsum a w r) r (tile0_apply a w r) (tile1_apply a w r) (tile2_apply a w r) (tile3_apply a w r) c).trans (tsum_eq a w hw r c)

/-- The means of two parts: the tile sums of `a` and of `b`, added. -/
def gsum2 (a b : FVec Ideal S512x512 .bf16) (w : FVec Ideal S128x128 .bf16) : FVec Ideal S512x512 .f32 :=
  concatenate S512x512 1 [⟨S512x128, addf (tile0 a w) (tile0 b w)⟩, ⟨S512x128, addf (tile1 a w) (tile1 b w)⟩, ⟨S512x128, addf (tile2 a w) (tile2 b w)⟩, ⟨S512x128, addf (tile3 a w) (tile3 b w)⟩]
    concatenates_S512x128_S512x128_S512x128_S512x128_S512x512_d1

theorem gsum2_apply (a b : FVec Ideal S512x512 .bf16) (w : FVec Ideal S128x128 .bf16) (hw : ∀ k j : Fin 128, w (ix2 k j) = if k.val / 64 = j.val / 64 then w64 else 0)
    (r c : Fin 512) : gsum2 a b w (ix2 r c) = ∑ k, a (ix2 r (gp c k)) * w64 + ∑ k, b (ix2 r (gp c k)) * w64 :=
  (cat4 _ _ _ _ (fun c => tsum a w r c + tsum b w r c) r (fun k => congrArg₂ (· + ·) (tile0_apply a w r k) (tile0_apply b w r k))
    (fun k => congrArg₂ (· + ·) (tile1_apply a w r k) (tile1_apply b w r k)) (fun k => congrArg₂ (· + ·) (tile2_apply a w r k) (tile2_apply b w r k))
    (fun k => congrArg₂ (· + ·) (tile3_apply a w r k) (tile3_apply b w r k)) c).trans (congrArg₂ (· + ·) (tsum_eq a w hw r c) (tsum_eq b w hw r c))

/-- The rows less their groups' means. -/
def cen (v67 v70 : Vec Ideal S512x512 .bf16) (w : FVec Ideal S128x128 .bf16) : FVec Ideal S512x512 .f32 :=
  subf (k0_pay9 v67 v70) (gsum2 (k0_pay11 v67 v70) (k0_pay12 v67 v70) w)

theorem ln_eq (v67 v70 : Vec Ideal S512x512 .bf16) (v74 : Vec Ideal S128x128 .bf16) (v119 v123 : Vec Ideal S1x1x512 .f32) :
    k0_pay15 (F := Ideal) (k0_pay9 v67 v70) (k0_pay10 v74) (k0_pay11 v67 v70) (k0_pay12 v67 v70) (k0_pay13 v67 v70 v74) (k0_pay14 v67 v70)
        (constant S512x128 .f32 0#32) v74 v119 v123
      = addf (mulf (mulf (cen v67 v70 (k0_pay10 v74))
          (rsqrt (addf (gsum (truncf .bf16 (mulf (cen v67 v70 (k0_pay10 v74)) (cen v67 v70 (k0_pay10 v74))) bitsLt_bf16_f32) (k0_pay10 v74))
            (broadcast S512x512 (Scalar.ofBits .f32 0x3A27C5AC#32))))) (gain v119)) (gain v123) := by
  rfl

/-- The third branch's payload. -/
theorem rwkv_apply (v67 v70 : Vec Ideal S512x512 .bf16) (v74 : Vec Ideal S128x128 .bf16) (v119 v123 : Vec Ideal S1x1x512 .f32) (v127 v130 : Vec Ideal S512x512 .bf16)
    (hw : ∀ k j : Fin 128, v74 (ix2 k j) = if k.val / 64 = j.val / 64 then w64 else 0) (r c : Fin 512) :
    k0_pay16 (F := Ideal) (k0_pay15 (k0_pay9 v67 v70) (k0_pay10 v74) (k0_pay11 v67 v70) (k0_pay12 v67 v70) (k0_pay13 v67 v70 v74) (k0_pay14 v67 v70)
        (constant S512x128 .f32 0#32) v74 v119 v123) v127 v130 (ix2 r c)
      = rwkvRow (fun k => v67 (ix2 r k) + v70 (ix2 r k)) (fun k => v119 (ix3 0 0 k)) (fun k => v123 (ix3 0 0 k)) (fun k => v127 (ix2 r k)) (fun k => v130 (ix2 r k)) c := by
  have hw' : ∀ k j : Fin 128, k0_pay10 v74 (ix2 k j) = if k.val / 64 = j.val / 64 then w64 else 0 := fun k j => by
    rw [← hw k j]
    pointwise [k0_pay10]
  have hC : ∀ c, cen v67 v70 (k0_pay10 v74) (ix2 r c) = v67 (ix2 r c) + v70 (ix2 r c)
      - (∑ k, (v67 (ix2 r (gp c k)) + v70 (ix2 r (gp c k))) * w64 + ∑ k, (v67 (ix2 r (gp c k)) + v70 (ix2 r (gp c k)) - (v67 (ix2 r (gp c k)) + v70 (ix2 r (gp c k)))) * w64) := by
    intro c
    refine congrArg₂ (· - ·) (by pointwise [k0_pay9]) ((gsum2_apply _ _ _ hw' r c).trans ?_)
    pointwise [k0_pay9, k0_pay11, k0_pay12]
  have hg : ∀ k, gp (gp c k) = gp c := fun k => funext fun j => Fin.ext (by simp [gp]; omega)
  have hL : k0_pay15 (F := Ideal) (k0_pay9 v67 v70) (k0_pay10 v74) (k0_pay11 v67 v70) (k0_pay12 v67 v70) (k0_pay13 v67 v70 v74) (k0_pay14 v67 v70)
        (constant S512x128 .f32 0#32) v74 v119 v123 (ix2 r c)
      = lnBy (mean (fun k => v67 (ix2 r k) + v70 (ix2 r k)) c) (fun k => v67 (ix2 r (gp c k)) + v70 (ix2 r (gp c k))) (v67 (ix2 r c) + v70 (ix2 r c)) * v119 (ix3 0 0 c) + v123 (ix3 0 0 c) := by
    rw [ln_eq]
    refine congrArg₂ (· + ·) (congrArg₂ (· * ·) ?_ (gain_apply v119 r c)) (gain_apply v123 r c)
    unfold mean
    rw [← lnBy_split]
    unfold lnBy
    rw [div_c64, ← sum_mul_w]
    refine congrArg₂ (· * ·) (hC c) (congrArg (fun s => Ideal.rsqrt (s + epsL)) ((gsum_apply _ _ hw' r c).trans ?_))
    refine Finset.sum_congr rfl fun k _ => congrArg (· * w64) ?_
    refine (congrArg₂ (· * ·) (hC (gp c k)) (hC (gp c k))).trans ?_
    rw [hg]
  refine Eq.trans ?_ (congrArg (fun z => (z + v127 (ix2 r c)) * v130 (ix2 r c)) hL)
  pointwise [k0_pay16]

/-- The block's payload: the branches merged. -/
theorem merge_apply (v132 : FVec Ideal S512x512 .f32) (v66 : FVec Ideal S512x512 .f32) (v133 : Vec Ideal S512x3072 .bf16) (v143 v158 v171 : Vec Ideal S1x512x1024 .bf16) (v156 : Vec Ideal S512x512 .bf16)
    (v177 : Vec Ideal S512x1024 .f32) (v179 : Vec Ideal S1x1024x1024 .bf16) (r : Fin 512) (l : Fin 1024) :
    k0_pay1 (F := Ideal) v132 (k0_pay18 v66 v133 v143 v156 v158) (k0_pay19 v133) k0_pay20 v171 v177 v179 (ix2 r l)
      = row (fun k => v177 (ix2 r k)) (fun k => v66 (ix2 r k)) (fun k => v156 (ix2 r k)) (fun k => v132 (ix2 r k)) (fun k => v133 (ix2 r k))
          (fun k j => v143 (ix3 0 k j)) (fun k j => v158 (ix3 0 k j)) (fun k j => v171 (ix3 0 k j)) (fun k j => v179 (ix3 0 k j)) l := by
  pointwise [k0_pay1, k0_pay17, k0_pay18, k0_pay19, k0_pay20]
  simp only [gate_eq]
  rfl

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 0] ∧ win0_5.index t = ![t.val, 0] ∧ win0_6.index t = ![t.val, 0]
    ∧ win0_7.index t = ![t.val, 1] ∧ win0_8.index t = ![t.val, 2] ∧ win0_9.index t = ![t.val, 0]
    ∧ win0_10.index t = ![0, 0, 0] ∧ win0_11.index t = ![0, 0, 0] ∧ win0_12.index t = ![0, 0, 0] ∧ win0_13.index t = ![0, 0]
    ∧ win0_14.index t = ![0, 0, 0] ∧ win0_15.index t = ![0, 0, 0] ∧ win0_16.index t = ![0, 0, 0] ∧ win0_17.index t = ![0, 0, 0] ∧ win0_18.index t = ![t.val, 0] :=
  (by decide +kernel : ∀ t : Fin grid0.N, _)

/-- The group of each of 128 channels, as the host computes it. -/
def headOf : IVec S128 32 :=
  let i : IVec S128 32 := iotaInDim S128 32 0
  let n : IVec S_ 32 := constantI S_ 32 64#32
  let b : IVec S128 32 := broadcastInDim S128 ![] bcast_S_S128 n
  let q : IVec S128 32 := Host.divsi i b
  select (andi (cmpi .ne (signi i) (broadcastInDim S128 ![] bcast_S_S128 (signi n))) (cmpi .ne (Host.remsi i b) (broadcastInDim S128 ![] bcast_S_S128 (constantI S_ 32 0#32))))
    (subi q (broadcastInDim S128 ![] bcast_S_S128 (constantI S_ 32 1#32))) q

theorem V_v10 (c : Dev nD) : V m c main_v10 = (truncf .bf16 (mulf (uitofp .f32 (cmpi .eq (broadcastInDim S128x128 ![0, 1] bcast_S128x1_S128x128_0_1 (broadcastInDim S128x1 ![0] bcast_S128_S128x1_0 headOf))
    (broadcastInDim S128x128 ![0, 1] bcast_S1x128_S128x128_0_1 (broadcastInDim S1x128 ![1] bcast_S128_S1x128_1 headOf))) : FVec Ideal S128x128 .f32)
    (broadcastInDim S128x128 ![] bcast_S_S128x128 (constant S_ .f32 0x3C800000#32))) bitsLt_bf16_f32 : FVec Ideal S128x128 .bf16) := by
  unfold V
  after_results
  rfl

theorem headOf_eq : ∀ k : Fin 128, headOf (ix1 k) = BitVec.ofNat 32 (k.val / 64) := by decide +kernel

theorem blk13 (c : Dev nD) (t : Fin cfg0.N) (k j : Fin 128) :
    (iblk m c 13 t : FVec Ideal S128x128 .bf16) (ix2 k j) = if k.val / 64 = j.val / 64 then w64 else 0 := by
  have h : (iblk m c 13 t : FVec Ideal S128x128 .bf16) (ix2 k j) = (V m c main_v10 : FVec Ideal S128x128 .bf16) (ix2 k j) := by
    blk_ext! [iblk, idx t]
  rw [h, V_v10]
  pointwise [headOf_eq]
  have hk : k.val / 64 = 0 ∨ k.val / 64 = 1 := by omega
  have hj : j.val / 64 = 0 ∨ j.val / 64 = 1 := by omega
  have hc : Ideal.ofBits .f32 1015021568#32 = w64 := by
    simp [w64, Ideal.ofBits, Ideal.ieee, -EReal.coe_mul]; norm_num
  rw [hc]
  rcases hk with hk | hk <;> rcases hj with hj | hj <;> rw [hk, hj]
  · have h : FloatOps.uitofp (F := Ideal) .f32 (IntOp.cmpi .eq 0#32 0#32) = (1 : EReal) := by simp [FloatOps.uitofp, IntOp.cmpi]
    rw [h]; simp
  · have h : FloatOps.uitofp (F := Ideal) .f32 (IntOp.cmpi .eq 0#32 1#32) = (0 : EReal) := by simp [FloatOps.uitofp, IntOp.cmpi]
    rw [h]; simp
  · have h : FloatOps.uitofp (F := Ideal) .f32 (IntOp.cmpi .eq 1#32 0#32) = (0 : EReal) := by simp [FloatOps.uitofp, IntOp.cmpi]
    rw [h]; simp
  · have h : FloatOps.uitofp (F := Ideal) .f32 (IntOp.cmpi .eq 1#32 1#32) = (1 : EReal) := by simp [FloatOps.uitofp, IntOp.cmpi]
    rw [h]; simp

/-- The array that the merge leaves, of the arrays it takes. -/
def G (x : FVec Ideal S16x2048x1024 .f32) (gf gb : FVec Ideal S16x2048x512 .bf16) (zg : FVec Ideal S32768x1664 .bf16) (yf rf rb : FVec Ideal S16x2048x512 .bf16)
    (tk : FVec Ideal S32768x1536 .bf16) (zt : FVec Ideal S32768x3072 .bf16) (gn lg lb : FVec Ideal S2x512 .f32) (pa pb pc : FVec Ideal S2x512x1024 .f32)
    (wo : FVec Ideal S2x1024x1024 .f32) : FVec Ideal S32768x1024 .f32 := fun i =>
  tokRow (fun b s k => x (ix3 b s k)) (fun b s k => gf (ix3 b s k)) (fun b s k => gb (ix3 b s k)) (fun b s k => yf (ix3 b s k)) (fun b s k => rf (ix3 b s k))
    (fun b s k => rb (ix3 b s k)) (fun n k => zg (ix2 n k)) (fun n k => tk (ix2 n k)) (fun n k => zt (ix2 n k)) (fun k => gn (ix2 0 k)) (fun k => lg (ix2 0 k))
    (fun k => lb (ix2 0 k)) (fun k j => pa (ix3 0 k j)) (fun k j => pb (ix3 0 k j)) (fun k j => pc (ix3 0 k j)) (fun k j => wo (ix3 0 k j))
    ⟨(i 0).val / 2048, by have := (i 0).isLt; exact Nat.div_lt_of_lt_mul this⟩ ⟨(i 0).val % 2048, Nat.mod_lt _ (by decide)⟩ (i 0) (i 1)

theorem V_v18 (c : Dev nD) : V m c main_v18 = shapeCast S32768x1024 (m ((c : Thread nD τ).loc main_arg0) : FVec Ideal S16x2048x1024 .f32) shapeCasts_S16x2048x1024_S32768x1024 := by
  unfold V
  rfl

theorem V_v19 (c : Dev nD) : V m c main_v19 = shapeCast S32768x512 (m ((c : Thread nD τ).loc main_arg1) : FVec Ideal S16x2048x512 .bf16) shapeCasts_S16x2048x512_S32768x512 := by
  unfold V
  rfl

theorem V_v20 (c : Dev nD) : V m c main_v20 = shapeCast S32768x512 (m ((c : Thread nD τ).loc main_arg2) : FVec Ideal S16x2048x512 .bf16) shapeCasts_S16x2048x512_S32768x512 := by
  unfold V
  rfl

theorem V_v21 (c : Dev nD) : V m c main_v21 = shapeCast S32768x512 (m ((c : Thread nD τ).loc main_arg4) : FVec Ideal S16x2048x512 .bf16) shapeCasts_S16x2048x512_S32768x512 := by
  unfold V
  rfl

theorem V_v22 (c : Dev nD) : V m c main_v22 = shapeCast S32768x512 (m ((c : Thread nD τ).loc main_arg5) : FVec Ideal S16x2048x512 .bf16) shapeCasts_S16x2048x512_S32768x512 := by
  unfold V
  rfl

theorem V_v23 (c : Dev nD) : V m c main_v23 = shapeCast S32768x512 (m ((c : Thread nD τ).loc main_arg6) : FVec Ideal S16x2048x512 .bf16) shapeCasts_S16x2048x512_S32768x512 := by
  unfold V
  rfl

theorem V_v11 (c : Dev nD) : V m c main_v11 = shapeCast S2x1x512 (m ((c : Thread nD τ).loc main_arg9) : FVec Ideal S2x512 .f32) shapeCasts_S2x512_S2x1x512 := by
  unfold V
  rfl

theorem V_v12 (c : Dev nD) : V m c main_v12 = shapeCast S2x1x512 (m ((c : Thread nD τ).loc main_arg10) : FVec Ideal S2x512 .f32) shapeCasts_S2x512_S2x1x512 := by
  unfold V
  rfl

theorem V_v13 (c : Dev nD) : V m c main_v13 = shapeCast S2x1x512 (m ((c : Thread nD τ).loc main_arg11) : FVec Ideal S2x512 .f32) shapeCasts_S2x512_S2x1x512 := by
  unfold V
  rfl

theorem blk0 (c : Dev nD) (t : Fin cfg0.N) (r : Fin 512) (k : Fin 1024) (b : Fin 16) (s : Fin 2048) (h : 2048 * b.val + s.val = 512 * t.val + r.val) :
    (iblk m c 0 t : FVec Ideal S512x1024 .f32) (ix2 r k) = (m ((c : Thread nD τ).loc main_arg0) : FVec Ideal S16x2048x1024 .f32) (ix3 b s k) := by
  have e : (iblk m c 0 t : FVec Ideal S512x1024 .f32) (ix2 r k) = (V m c main_v18 : FVec Ideal S32768x1024 .f32) (ix2 ⟨512 * t.val + r.val, by have := t.isLt; have : t.val < 64 := this; omega⟩ k) := by
    blk_ext! [iblk, idx t]
  rw [e, V_v18]
  refine shapeCast_apply _ _ _ (ix3 b s k) ?_
  rw [Shape.rowMajor_val_three, Shape.rowMajor_val_two]
  simp [ix3, ix2]
  omega

theorem blk1 (c : Dev nD) (t : Fin cfg0.N) (r k : Fin 512) (b : Fin 16) (s : Fin 2048) (h : 2048 * b.val + s.val = 512 * t.val + r.val) :
    (iblk m c 1 t : FVec Ideal S512x512 .bf16) (ix2 r k) = (m ((c : Thread nD τ).loc main_arg1) : FVec Ideal S16x2048x512 .bf16) (ix3 b s k) := by
  have e : (iblk m c 1 t : FVec Ideal S512x512 .bf16) (ix2 r k) = (V m c main_v19 : FVec Ideal S32768x512 .bf16) (ix2 ⟨512 * t.val + r.val, by have := t.isLt; have : t.val < 64 := this; omega⟩ k) := by
    blk_ext! [iblk, idx t]
  rw [e, V_v19]
  refine shapeCast_apply _ _ _ (ix3 b s k) ?_
  rw [Shape.rowMajor_val_three, Shape.rowMajor_val_two]
  simp [ix3, ix2]
  omega

theorem blk2 (c : Dev nD) (t : Fin cfg0.N) (r k : Fin 512) (b : Fin 16) (s : Fin 2048) (h : 2048 * b.val + s.val = 512 * t.val + r.val) :
    (iblk m c 2 t : FVec Ideal S512x512 .bf16) (ix2 r k) = (m ((c : Thread nD τ).loc main_arg2) : FVec Ideal S16x2048x512 .bf16) (ix3 b s k) := by
  have e : (iblk m c 2 t : FVec Ideal S512x512 .bf16) (ix2 r k) = (V m c main_v20 : FVec Ideal S32768x512 .bf16) (ix2 ⟨512 * t.val + r.val, by have := t.isLt; have : t.val < 64 := this; omega⟩ k) := by
    blk_ext! [iblk, idx t]
  rw [e, V_v20]
  refine shapeCast_apply _ _ _ (ix3 b s k) ?_
  rw [Shape.rowMajor_val_three, Shape.rowMajor_val_two]
  simp [ix3, ix2]
  omega

theorem blk4 (c : Dev nD) (t : Fin cfg0.N) (r k : Fin 512) (b : Fin 16) (s : Fin 2048) (h : 2048 * b.val + s.val = 512 * t.val + r.val) :
    (iblk m c 4 t : FVec Ideal S512x512 .bf16) (ix2 r k) = (m ((c : Thread nD τ).loc main_arg4) : FVec Ideal S16x2048x512 .bf16) (ix3 b s k) := by
  have e : (iblk m c 4 t : FVec Ideal S512x512 .bf16) (ix2 r k) = (V m c main_v21 : FVec Ideal S32768x512 .bf16) (ix2 ⟨512 * t.val + r.val, by have := t.isLt; have : t.val < 64 := this; omega⟩ k) := by
    blk_ext! [iblk, idx t]
  rw [e, V_v21]
  refine shapeCast_apply _ _ _ (ix3 b s k) ?_
  rw [Shape.rowMajor_val_three, Shape.rowMajor_val_two]
  simp [ix3, ix2]
  omega

theorem blk5 (c : Dev nD) (t : Fin cfg0.N) (r k : Fin 512) (b : Fin 16) (s : Fin 2048) (h : 2048 * b.val + s.val = 512 * t.val + r.val) :
    (iblk m c 5 t : FVec Ideal S512x512 .bf16) (ix2 r k) = (m ((c : Thread nD τ).loc main_arg5) : FVec Ideal S16x2048x512 .bf16) (ix3 b s k) := by
  have e : (iblk m c 5 t : FVec Ideal S512x512 .bf16) (ix2 r k) = (V m c main_v22 : FVec Ideal S32768x512 .bf16) (ix2 ⟨512 * t.val + r.val, by have := t.isLt; have : t.val < 64 := this; omega⟩ k) := by
    blk_ext! [iblk, idx t]
  rw [e, V_v22]
  refine shapeCast_apply _ _ _ (ix3 b s k) ?_
  rw [Shape.rowMajor_val_three, Shape.rowMajor_val_two]
  simp [ix3, ix2]
  omega

theorem blk6 (c : Dev nD) (t : Fin cfg0.N) (r k : Fin 512) (b : Fin 16) (s : Fin 2048) (h : 2048 * b.val + s.val = 512 * t.val + r.val) :
    (iblk m c 6 t : FVec Ideal S512x512 .bf16) (ix2 r k) = (m ((c : Thread nD τ).loc main_arg6) : FVec Ideal S16x2048x512 .bf16) (ix3 b s k) := by
  have e : (iblk m c 6 t : FVec Ideal S512x512 .bf16) (ix2 r k) = (V m c main_v23 : FVec Ideal S32768x512 .bf16) (ix2 ⟨512 * t.val + r.val, by have := t.isLt; have : t.val < 64 := this; omega⟩ k) := by
    blk_ext! [iblk, idx t]
  rw [e, V_v23]
  refine shapeCast_apply _ _ _ (ix3 b s k) ?_
  rw [Shape.rowMajor_val_three, Shape.rowMajor_val_two]
  simp [ix3, ix2]
  omega

theorem blk7 (c : Dev nD) (t : Fin cfg0.N) (r k : Fin 512) (n : Fin 32768) (hn : n.val = 512 * t.val + r.val) :
    (iblk m c 7 t : FVec Ideal S512x512 .bf16) (ix2 r k) = (m ((c : Thread nD τ).loc main_arg7) : FVec Ideal S32768x1536 .bf16) (ix2 n ⟨512 + k.val, by omega⟩) := by
  blk_ext! [iblk, V, idx t]

theorem blk8 (c : Dev nD) (t : Fin cfg0.N) (r k : Fin 512) (n : Fin 32768) (hn : n.val = 512 * t.val + r.val) :
    (iblk m c 8 t : FVec Ideal S512x512 .bf16) (ix2 r k) = (m ((c : Thread nD τ).loc main_arg7) : FVec Ideal S32768x1536 .bf16) (ix2 n ⟨1024 + k.val, by omega⟩) := by
  blk_ext! [iblk, V, idx t]

theorem blk3 (c : Dev nD) (t : Fin cfg0.N) (r k : Fin 512) (n : Fin 32768) (hn : n.val = 512 * t.val + r.val) :
    (X0_3 m c t : FVec Ideal S512x512 .bf16) (ix2 r k) = (m ((c : Thread nD τ).loc main_arg3) : FVec Ideal S32768x1664 .bf16) (ix2 n ⟨1024 + k.val, by omega⟩) := by
  unfold X0_3 Pipeline.Window.fill
  rw [dif_pos (moved0_3 t _)]
  blk_ext! [iblk, V, idx t]

theorem blk9 (c : Dev nD) (t : Fin cfg0.N) (r : Fin 512) (k : Fin 3072) (n : Fin 32768) (hn : n.val = 512 * t.val + r.val) :
    (iblk m c 9 t : FVec Ideal S512x3072 .bf16) (ix2 r k) = (m ((c : Thread nD τ).loc main_arg8) : FVec Ideal S32768x3072 .bf16) (ix2 n k) := by
  blk_ext! [iblk, V, idx t]

theorem blk10 (c : Dev nD) (t : Fin cfg0.N) (k : Fin 512) :
    (iblk m c 10 t : FVec Ideal S1x1x512 .f32) (ix3 0 0 k) = (m ((c : Thread nD τ).loc main_arg9) : FVec Ideal S2x512 .f32) (ix2 0 k) := by
  have e : (iblk m c 10 t : FVec Ideal S1x1x512 .f32) (ix3 0 0 k) = (V m c main_v11 : FVec Ideal S2x1x512 .f32) (ix3 0 0 k) := by
    blk_ext! [iblk, idx t]
  rw [e, V_v11]
  refine shapeCast_apply _ _ _ (ix2 0 k) ?_
  rw [Shape.rowMajor_val_three, Shape.rowMajor_val_two]
  simp [ix3, ix2]

theorem blk11 (c : Dev nD) (t : Fin cfg0.N) (k : Fin 512) :
    (iblk m c 11 t : FVec Ideal S1x1x512 .f32) (ix3 0 0 k) = (m ((c : Thread nD τ).loc main_arg10) : FVec Ideal S2x512 .f32) (ix2 0 k) := by
  have e : (iblk m c 11 t : FVec Ideal S1x1x512 .f32) (ix3 0 0 k) = (V m c main_v12 : FVec Ideal S2x1x512 .f32) (ix3 0 0 k) := by
    blk_ext! [iblk, idx t]
  rw [e, V_v12]
  refine shapeCast_apply _ _ _ (ix2 0 k) ?_
  rw [Shape.rowMajor_val_three, Shape.rowMajor_val_two]
  simp [ix3, ix2]

theorem blk12 (c : Dev nD) (t : Fin cfg0.N) (k : Fin 512) :
    (iblk m c 12 t : FVec Ideal S1x1x512 .f32) (ix3 0 0 k) = (m ((c : Thread nD τ).loc main_arg11) : FVec Ideal S2x512 .f32) (ix2 0 k) := by
  have e : (iblk m c 12 t : FVec Ideal S1x1x512 .f32) (ix3 0 0 k) = (V m c main_v13 : FVec Ideal S2x1x512 .f32) (ix3 0 0 k) := by
    blk_ext! [iblk, idx t]
  rw [e, V_v13]
  refine shapeCast_apply _ _ _ (ix2 0 k) ?_
  rw [Shape.rowMajor_val_three, Shape.rowMajor_val_two]
  simp [ix3, ix2]

theorem blk14 (c : Dev nD) (t : Fin cfg0.N) (k : Fin 512) (j : Fin 1024) :
    (iblk m c 14 t : FVec Ideal S1x512x1024 .bf16) (ix3 0 k j) = (m ((c : Thread nD τ).loc main_arg12) : FVec Ideal S2x512x1024 .f32) (ix3 0 k j) := by
  blk_ext! [iblk, V, idx t]

theorem blk15 (c : Dev nD) (t : Fin cfg0.N) (k : Fin 512) (j : Fin 1024) :
    (iblk m c 15 t : FVec Ideal S1x512x1024 .bf16) (ix3 0 k j) = (m ((c : Thread nD τ).loc main_arg13) : FVec Ideal S2x512x1024 .f32) (ix3 0 k j) := by
  blk_ext! [iblk, V, idx t]

theorem blk16 (c : Dev nD) (t : Fin cfg0.N) (k : Fin 512) (j : Fin 1024) :
    (iblk m c 16 t : FVec Ideal S1x512x1024 .bf16) (ix3 0 k j) = (m ((c : Thread nD τ).loc main_arg14) : FVec Ideal S2x512x1024 .f32) (ix3 0 k j) := by
  blk_ext! [iblk, V, idx t]

theorem blk17 (c : Dev nD) (t : Fin cfg0.N) (k : Fin 1024) (j : Fin 1024) :
    (iblk m c 17 t : FVec Ideal S1x1024x1024 .bf16) (ix3 0 k j) = (m ((c : Thread nD τ).loc main_arg15) : FVec Ideal S2x1024x1024 .f32) (ix3 0 k j) := by
  blk_ext! [iblk, V, idx t]

theorem emb0 (t : Fin cfg0.N) (y : S512x1024.Idx) : (((win0_18.blk t).view.emb y 0 : Fin 32768) : ℕ) = 512 * t.val + (y 0).val := by
  blk_simp [idx t]
  try omega

theorem emb1 (t : Fin cfg0.N) (y : S512x1024.Idx) : (((win0_18.blk t).view.emb y 1 : Fin 1024) : ℕ) = (y 1).val := by
  blk_simp [idx t]
  try omega

/-- The payload of a point over its blocks. -/
noncomputable def payload (x0 : Vec Ideal S512x1024 .f32) (x1 x2 x3 x4 x5 x6 x7 x8 : Vec Ideal S512x512 .bf16) (x9 : Vec Ideal S512x3072 .bf16) (x10 x11 x12 : Vec Ideal S1x1x512 .f32)
    (x13 : Vec Ideal S128x128 .bf16) (x14 x15 x16 : Vec Ideal S1x512x1024 .bf16) (x17 : Vec Ideal S1x1024x1024 .bf16) : FVec Ideal S512x1024 .f32 :=
    k0_pay1 (F := Ideal)
      (k0_pay16 (k0_pay15 (k0_pay9 x5 x6) (k0_pay10 x13) (k0_pay11 x5 x6) (k0_pay12 x5 x6) (k0_pay13 x5 x6 x13) (k0_pay14 x5 x6) (constant S512x128 .f32 0#32) x13 x11 x12) x7 x8)
      (k0_pay18 (k0_pay8 (k0_pay3 x1 x2) (k0_pay4 x1 x2) (k0_pay5 x1 x2) (k0_pay6 x1 x2) (k0_pay7 x1 x2) (FloatOps.ofBits .f32 1124073472#32) x3 x10) x9 x14 x4 x15)
      (k0_pay19 x9) k0_pay20 x16 x0 x17

/-- The payload of a point over its blocks, at an index. -/
theorem pay_apply (x0 : Vec Ideal S512x1024 .f32) (x1 x2 x3 x4 x5 x6 x7 x8 : Vec Ideal S512x512 .bf16) (x9 : Vec Ideal S512x3072 .bf16) (x10 x11 x12 : Vec Ideal S1x1x512 .f32)
    (x13 : Vec Ideal S128x128 .bf16) (x14 x15 x16 : Vec Ideal S1x512x1024 .bf16) (x17 : Vec Ideal S1x1024x1024 .bf16)
    (hw : ∀ k j : Fin 128, x13 (ix2 k j) = if k.val / 64 = j.val / 64 then w64 else 0) (r : Fin 512) (l : Fin 1024) :
    payload x0 x1 x2 x3 x4 x5 x6 x7 x8 x9 x10 x11 x12 x13 x14 x15 x16 x17 (ix2 r l)
      = row (fun k => x0 (ix2 r k)) (glaRow (fun k => x1 (ix2 r k) + x2 (ix2 r k)) (fun k => x10 (ix3 0 0 k)) fun k => x3 (ix2 r k)) (fun k => x4 (ix2 r k))
          (rwkvRow (fun k => x5 (ix2 r k) + x6 (ix2 r k)) (fun k => x11 (ix3 0 0 k)) (fun k => x12 (ix3 0 0 k)) (fun k => x7 (ix2 r k)) fun k => x8 (ix2 r k))
          (fun k => x9 (ix2 r k)) (fun k j => x14 (ix3 0 k j)) (fun k j => x15 (ix3 0 k j)) (fun k j => x16 (ix3 0 k j)) (fun k j => x17 (ix3 0 k j)) l :=
  (merge_apply _ _ x9 x14 x15 x16 x4 x0 x17 r l).trans
    (row_congr (fun _ => rfl) (fun k => gla_apply x1 x2 x3 x10 r k) (fun _ => rfl) (fun k => rwkv_apply x5 x6 x13 x11 x12 x7 x8 hw r k) (fun _ => rfl)
      (fun _ _ => rfl) (fun _ _ => rfl) (fun _ _ => rfl) (fun _ _ => rfl) rfl)

/-- The payload on row `r` of blocks that hold row `n` of the arrays is the result's row `n`. -/
theorem pay_row (x0 : Vec Ideal S512x1024 .f32) (x1 x2 x3 x4 x5 x6 x7 x8 : Vec Ideal S512x512 .bf16) (x9 : Vec Ideal S512x3072 .bf16) (x10 x11 x12 : Vec Ideal S1x1x512 .f32)
    (x13 : Vec Ideal S128x128 .bf16) (x14 x15 x16 : Vec Ideal S1x512x1024 .bf16) (x17 : Vec Ideal S1x1024x1024 .bf16)
    (hw : ∀ k j : Fin 128, x13 (ix2 k j) = if k.val / 64 = j.val / 64 then w64 else 0) (r : Fin 512) (l : Fin 1024) (n : ℕ) (i : S32768x1024.Idx) (h0 : (i 0 : Fin 32768).val = n)
    (h1 : (i 1 : Fin 1024).val = l.val)
    (a0 : FVec Ideal S16x2048x1024 .f32) (a1 : FVec Ideal S16x2048x512 .bf16) (a2 : FVec Ideal S16x2048x512 .bf16) (a3 : FVec Ideal S32768x1664 .bf16) (a4 : FVec Ideal S16x2048x512 .bf16) (a5 : FVec Ideal S16x2048x512 .bf16) (a6 : FVec Ideal S16x2048x512 .bf16) (a7 : FVec Ideal S32768x1536 .bf16) (a8 : FVec Ideal S32768x3072 .bf16) (a9 : FVec Ideal S2x512 .f32) (a10 : FVec Ideal S2x512 .f32) (a11 : FVec Ideal S2x512 .f32) (a12 : FVec Ideal S2x512x1024 .f32) (a13 : FVec Ideal S2x512x1024 .f32) (a14 : FVec Ideal S2x512x1024 .f32) (a15 : FVec Ideal S2x1024x1024 .f32)
    (q0 : ∀ k (b : Fin 16) (s : Fin 2048), 2048 * b.val + s.val = n → x0 (ix2 r k) = a0 (ix3 b s k))
    (q1 : ∀ k (b : Fin 16) (s : Fin 2048), 2048 * b.val + s.val = n → x1 (ix2 r k) = a1 (ix3 b s k))
    (q2 : ∀ k (b : Fin 16) (s : Fin 2048), 2048 * b.val + s.val = n → x2 (ix2 r k) = a2 (ix3 b s k))
    (q4 : ∀ k (b : Fin 16) (s : Fin 2048), 2048 * b.val + s.val = n → x4 (ix2 r k) = a4 (ix3 b s k))
    (q5 : ∀ k (b : Fin 16) (s : Fin 2048), 2048 * b.val + s.val = n → x5 (ix2 r k) = a5 (ix3 b s k))
    (q6 : ∀ k (b : Fin 16) (s : Fin 2048), 2048 * b.val + s.val = n → x6 (ix2 r k) = a6 (ix3 b s k))
    (q3 : ∀ (k : Fin 512) (i : Fin 32768), i.val = n → x3 (ix2 r k) = a3 (ix2 i ⟨1024 + k.val, by omega⟩))
    (q7 : ∀ (k : Fin 512) (i : Fin 32768), i.val = n → x7 (ix2 r k) = a7 (ix2 i ⟨512 + k.val, by omega⟩))
    (q8 : ∀ (k : Fin 512) (i : Fin 32768), i.val = n → x8 (ix2 r k) = a7 (ix2 i ⟨1024 + k.val, by omega⟩))
    (q9 : ∀ (k : Fin 3072) (i : Fin 32768), i.val = n → x9 (ix2 r k) = a8 (ix2 i k))
    (q10 : ∀ k, x10 (ix3 0 0 k) = a9 (ix2 0 k))
    (q11 : ∀ k, x11 (ix3 0 0 k) = a10 (ix2 0 k))
    (q12 : ∀ k, x12 (ix3 0 0 k) = a11 (ix2 0 k))
    (q14 : ∀ k j, x14 (ix3 0 k j) = a12 (ix3 0 k j))
    (q15 : ∀ k j, x15 (ix3 0 k j) = a13 (ix3 0 k j))
    (q16 : ∀ k j, x16 (ix3 0 k j) = a14 (ix3 0 k j))
    (q17 : ∀ k j, x17 (ix3 0 k j) = a15 (ix3 0 k j)) :
    payload x0 x1 x2 x3 x4 x5 x6 x7 x8 x9 x10 x11 x12 x13 x14 x15 x16 x17 (ix2 r l) = G a0 a1 a2 a3 a4 a5 a6 a7 a8 a9 a10 a11 a12 a13 a14 a15 i := by
  have e3 : 2048 * ((i 0 : Fin 32768).val / 2048) + (i 0 : Fin 32768).val % 2048 = n := by
    rw [Nat.div_add_mod]; exact h0
  refine (pay_apply _ _ _ _ _ _ _ _ _ _ _ _ _ _ _ _ _ _ hw r l).trans ?_
  unfold G tokRow
  have g1 := fun k => congrArg₂ (· + ·) (q1 k ⟨(i 0 : Fin 32768).val / 2048, Nat.div_lt_of_lt_mul (i 0).isLt⟩ ⟨(i 0 : Fin 32768).val % 2048, Nat.mod_lt _ (by decide)⟩ e3) (q2 k ⟨(i 0 : Fin 32768).val / 2048, Nat.div_lt_of_lt_mul (i 0).isLt⟩ ⟨(i 0 : Fin 32768).val % 2048, Nat.mod_lt _ (by decide)⟩ e3)
  have g5 := fun k => congrArg₂ (· + ·) (q5 k ⟨(i 0 : Fin 32768).val / 2048, Nat.div_lt_of_lt_mul (i 0).isLt⟩ ⟨(i 0 : Fin 32768).val % 2048, Nat.mod_lt _ (by decide)⟩ e3) (q6 k ⟨(i 0 : Fin 32768).val / 2048, Nat.div_lt_of_lt_mul (i 0).isLt⟩ ⟨(i 0 : Fin 32768).val % 2048, Nat.mod_lt _ (by decide)⟩ e3)
  refine row_congr (fun k => q0 k _ _ e3) (fun k => ?_) (fun k => q4 k _ _ e3) (fun k => ?_)
    (fun k => q9 k _ h0) q14 q15 q16 q17 (Fin.ext h1.symm)
  · exact congrFun (congr (congr (congrArg glaRow (funext g1)) (funext q10)) (funext fun k => q3 k _ h0)) k
  · exact congrFun (congr (congr (congr (congr (congrArg rwkvRow (funext g5)) (funext q11)) (funext q12))
      (funext fun k => q7 k _ h0)) (funext fun k => q8 k _ h0)) k

theorem point (c : Dev nD) (t : Fin cfg0.N) (y : S512x1024.Idx) :
    payload (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (((win0_18.blk t).view.emb y : S32768x1024.Idx)) := by
  have hy : y = ix2 (y 0) (y 1) := by funext a; fin_cases a <;> rfl
  refine (congrArg _ hy).trans ?_
  exact pay_row _ _ _ _ _ _ _ _ _ _ _ _ _ _ _ _ _ _ (blk13 m c t) (y 0) (y 1) (512 * t.val + (y 0).val) _ (emb0 t y) (emb1 t y) _ _ _ _ _ _ _ _ _ _ _ _ _ _ _ _
    (fun k => blk0 m c t (y 0) k) (fun k => blk1 m c t (y 0) k) (fun k => blk2 m c t (y 0) k) (fun k => blk4 m c t (y 0) k) (fun k => blk5 m c t (y 0) k) (fun k => blk6 m c t (y 0) k)
    (fun k => blk3 m c t (y 0) k) (fun k => blk7 m c t (y 0) k) (fun k => blk8 m c t (y 0) k) (fun k => blk9 m c t (y 0) k) (blk10 m c t) (blk11 m c t) (blk12 m c t)
    (blk14 m c t) (blk15 m c t) (blk16 m c t) (blk17 m c t)

/-- The result array after the run. -/
theorem final (c : Dev nD) : (dats m 0 c).arrAt 18 (cfgs 0).N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 18 _ (by decide +kernel) fun t _ y => ?_
  blk_simp
  rw [after0_18]
  unfold outsAt0
  frame_out
  exact point m c t y

end Cert.Kernel4Ideal.Value
-- ==== Proof.Merge.Reference.lean ====
/-
  What the merge's reference computes, entry by entry.
-/
module

public import proofs.«01_k».proof.Proof.Gen.Reference4Ideal.Run
public import Idealize.ShloMosaic.Lib.Pipeline.ValueKit
public import Idealize.ShloMosaic.Lib.Pointwise
public import proofs.«01_k».proof.Proof.Merge.Spec

/-! The reference of the merge: its term cut into the stages that the layer names, each stage at an index, and
    the result's row from them. -/

@[expose] public section
set_option maxRecDepth 16384
noncomputable section
namespace Cert.Reference4Ideal.Value
open Cert.Reference4Ideal Cert.Reference4Ideal.Gen Idealize.ShloMosaic Idealize.ShloMosaic.TcCoe Idealize.SL.Sem
open Cert.MergeSpec

/-- The heads of the first branch, normed. -/
def sHeads (o : FVec Ideal S16x2048x4x128 .f32) : FVec Ideal S16x2048x4x128 .f32 :=
  (mulf o (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf o o) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32))))))

/-- The first branch of normed rows: the gains and the gate. -/
def sGla (o : FVec Ideal S16x2048x512 .f32) (g : FVec Ideal S512 .f32) (r : FVec Ideal S16x2048x512 .bf16) : FVec Ideal S16x2048x512 .f32 :=
  (mulf (mulf o (broadcastInDim S16x2048x512 ![0, 1, 2] bcast_S1x1x512_S16x2048x512_0_1_2 (broadcastInDim S1x1x512 ![2] bcast_S512_S1x1x512_2 g))) (mulf (extf .f32 r bitsLt_bf16_f32) (Host.divf ((broadcastInDim S16x2048x512 ![] bcast_S_S16x2048x512) (constant S_ .f32 0x3F800000#32)) (addf ((broadcastInDim S16x2048x512 ![] bcast_S_S16x2048x512) (constant S_ .f32 0x3F800000#32)) (Host.exp (Host.negf (extf .f32 r bitsLt_bf16_f32)))))))

/-- The groups of the third branch, normed. -/
def sGroups (y : FVec Ideal S16x2048x8x64 .f32) : FVec Ideal S16x2048x8x64 .f32 :=
  (mulf (subf y (broadcastInDim S16x2048x8x64 ![0, 1, 2, 3] bcast_S16x2048x8x1_S16x2048x8x64_0_1_2_3 (Host.divf (broadcastInDim S16x2048x8x1 ![0, 1, 2] bcast_S16x2048x8_S16x2048x8x1_0_1_2 (Host.reduceAdd y (constant S_ .f32 0x00000000#32) reducesTo_S16x2048x8x64_S16x2048x8_d3 h_S_)) (broadcastInDim S16x2048x8x1 ![] bcast_S_S16x2048x8x1 (constant S_ .f32 0x42800000#32))))) (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf (subf y (broadcastInDim S16x2048x8x64 ![0, 1, 2, 3] bcast_S16x2048x8x1_S16x2048x8x64_0_1_2_3 (Host.divf (broadcastInDim S16x2048x8x1 ![0, 1, 2] bcast_S16x2048x8_S16x2048x8x1_0_1_2 (Host.reduceAdd y (constant S_ .f32 0x00000000#32) reducesTo_S16x2048x8x64_S16x2048x8_d3 h_S_)) (broadcastInDim S16x2048x8x1 ![] bcast_S_S16x2048x8x1 (constant S_ .f32 0x42800000#32))))) (subf y (broadcastInDim S16x2048x8x64 ![0, 1, 2, 3] bcast_S16x2048x8x1_S16x2048x8x64_0_1_2_3 (Host.divf (broadcastInDim S16x2048x8x1 ![0, 1, 2] bcast_S16x2048x8_S16x2048x8x1_0_1_2 (Host.reduceAdd y (constant S_ .f32 0x00000000#32) reducesTo_S16x2048x8x64_S16x2048x8_d3 h_S_)) (broadcastInDim S16x2048x8x1 ![] bcast_S_S16x2048x8x1 (constant S_ .f32 0x42800000#32)))))) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x3A27C5AC#32))))))

/-- The third branch of normed rows: gains, shifts, bonus, gate. -/
def sRwkv (y : FVec Ideal S16x2048x512 .f32) (g b : FVec Ideal S512 .f32) (u v : FVec Ideal S16x2048x512 .f32) : FVec Ideal S16x2048x512 .f32 :=
  (mulf (addf (addf (mulf y (broadcastInDim S16x2048x512 ![0, 1, 2] bcast_S1x1x512_S16x2048x512_0_1_2 (broadcastInDim S1x1x512 ![2] bcast_S512_S1x1x512_2 g))) (broadcastInDim S16x2048x512 ![0, 1, 2] bcast_S1x1x512_S16x2048x512_0_1_2 (broadcastInDim S1x1x512 ![2] bcast_S512_S1x1x512_2 b))) u) v)

/-- The gates. -/
def sGates (z : FVec Ideal S32768x3072 .bf16) : FVec Ideal S32768x3072 .f32 :=
  (Host.divf (broadcastInDim S32768x3072 ![] bcast_S_S32768x3072 (constant S_ .f32 0x3F800000#32)) (addf (broadcastInDim S32768x3072 ![] bcast_S_S32768x3072 (constant S_ .f32 0x3F800000#32)) (Host.exp (Host.negf (extf .f32 z bitsLt_bf16_f32)))))

/-- The three branches projected, gated, added up. -/
def sMix (z : FVec Ideal S16x2048x3x1024 .f32) (ya yb yc : FVec Ideal S16x2048x512 .f32) (pa pb pc : FVec Ideal S2x512x1024 .f32) : FVec Ideal S16x2048x1024 .f32 :=
  (addf (addf (mulf (shapeCast _ (extractStridedSlice S16x2048x1x1024 ![0, 0, 0, 0] z slices_S16x2048x3x1024_S16x2048x1x1024_0_0_0_0) shapeCasts_S16x2048x1x1024_S16x2048x1024) (Host.dotGeneral dot_S16x2048x512_S512x1024_S16x2048x1024_2_0_01_1_n_n none ya (shapeCast _ (extractStridedSlice S1x512x1024 ![0, 0, 0] pa slices_S2x512x1024_S1x512x1024_0_0_0) shapeCasts_S1x512x1024_S512x1024))) (mulf (shapeCast _ (extractStridedSlice S16x2048x1x1024 ![0, 0, 1, 0] z slices_S16x2048x3x1024_S16x2048x1x1024_0_0_1_0) shapeCasts_S16x2048x1x1024_S16x2048x1024) (Host.dotGeneral dot_S16x2048x512_S512x1024_S16x2048x1024_2_0_01_1_n_n none yb (shapeCast _ (extractStridedSlice S1x512x1024 ![0, 0, 0] pb slices_S2x512x1024_S1x512x1024_0_0_0) shapeCasts_S1x512x1024_S512x1024)))) (mulf (shapeCast _ (extractStridedSlice S16x2048x1x1024 ![0, 0, 2, 0] z slices_S16x2048x3x1024_S16x2048x1x1024_0_0_2_0) shapeCasts_S16x2048x1x1024_S16x2048x1024) (Host.dotGeneral dot_S16x2048x512_S512x1024_S16x2048x1024_2_0_01_1_n_n none yc (shapeCast _ (extractStridedSlice S1x512x1024 ![0, 0, 0] pc slices_S2x512x1024_S1x512x1024_0_0_0) shapeCasts_S1x512x1024_S512x1024))))

/-- The rows with the mixed rows' projection added. -/
def sOut (x mix : FVec Ideal S16x2048x1024 .f32) (wo : FVec Ideal S2x1024x1024 .f32) : FVec Ideal S16x2048x1024 .f32 :=
  (addf x (Host.dotGeneral dot_S16x2048x1024_S1024x1024_S16x2048x1024_2_0_01_1_n_n none mix (shapeCast _ (extractStridedSlice S1x1024x1024 ![0, 0, 0] wo slices_S2x1024x1024_S1x1024x1024_0_0_0) shapeCasts_S1x1024x1024_S1024x1024)))

theorem res_eq (m : (ℓ : Loc nD τ sig) → Buf (Elt Ideal) ℓ) (c : Dev nD) :
    (res_out0 m c : FVec Ideal S32768x1024 .f32) = shapeCast S32768x1024 (sOut (m ((c.tc : Thread nD τ).loc main_arg0) : FVec Ideal S16x2048x1024 .f32) (sMix (shapeCast _ (sGates (m ((c.tc : Thread nD τ).loc main_arg8) : FVec Ideal S32768x3072 .bf16)) shapeCasts_S32768x3072_S16x2048x3x1024)
        (sGla (shapeCast _ (sHeads (shapeCast _ (addf (extf .f32 (m ((c.tc : Thread nD τ).loc main_arg1) : FVec Ideal S16x2048x512 .bf16) bitsLt_bf16_f32) (extf .f32 (m ((c.tc : Thread nD τ).loc main_arg2) : FVec Ideal S16x2048x512 .bf16) bitsLt_bf16_f32)) shapeCasts_S16x2048x512_S16x2048x4x128)) shapeCasts_S16x2048x4x128_S16x2048x512) (shapeCast _ (extractStridedSlice S1x512 ![0, 0] (m ((c.tc : Thread nD τ).loc main_arg9) : FVec Ideal S2x512 .f32) slices_S2x512_S1x512_0_0) shapeCasts_S1x512_S512) (shapeCast _ (extractStridedSlice S32768x512 ![0, 1024] (m ((c.tc : Thread nD τ).loc main_arg3) : FVec Ideal S32768x1664 .bf16) slices_S32768x1664_S32768x512_0_1024) shapeCasts_S32768x512_S16x2048x512))
        (extf .f32 (m ((c.tc : Thread nD τ).loc main_arg4) : FVec Ideal S16x2048x512 .bf16) bitsLt_bf16_f32)
        (sRwkv (shapeCast _ (sGroups (shapeCast _ (addf (extf .f32 (m ((c.tc : Thread nD τ).loc main_arg5) : FVec Ideal S16x2048x512 .bf16) bitsLt_bf16_f32) (extf .f32 (m ((c.tc : Thread nD τ).loc main_arg6) : FVec Ideal S16x2048x512 .bf16) bitsLt_bf16_f32)) shapeCasts_S16x2048x512_S16x2048x8x64)) shapeCasts_S16x2048x8x64_S16x2048x512) (shapeCast _ (extractStridedSlice S1x512 ![0, 0] (m ((c.tc : Thread nD τ).loc main_arg10) : FVec Ideal S2x512 .f32) slices_S2x512_S1x512_0_0) shapeCasts_S1x512_S512) (shapeCast _ (extractStridedSlice S1x512 ![0, 0] (m ((c.tc : Thread nD τ).loc main_arg11) : FVec Ideal S2x512 .f32) slices_S2x512_S1x512_0_0) shapeCasts_S1x512_S512) (shapeCast _ (extf .f32 (extractStridedSlice S32768x512 ![0, 512] (m ((c.tc : Thread nD τ).loc main_arg7) : FVec Ideal S32768x1536 .bf16) slices_S32768x1536_S32768x512_0_512) bitsLt_bf16_f32) shapeCasts_S32768x512_S16x2048x512) (shapeCast _ (extf .f32 (extractStridedSlice S32768x512 ![0, 1024] (m ((c.tc : Thread nD τ).loc main_arg7) : FVec Ideal S32768x1536 .bf16) slices_S32768x1536_S32768x512_0_1024) bitsLt_bf16_f32) shapeCasts_S32768x512_S16x2048x512))
        (m ((c.tc : Thread nD τ).loc main_arg12) : FVec Ideal S2x512x1024 .f32) (m ((c.tc : Thread nD τ).loc main_arg13) : FVec Ideal S2x512x1024 .f32) (m ((c.tc : Thread nD τ).loc main_arg14) : FVec Ideal S2x512x1024 .f32)) (m ((c.tc : Thread nD τ).loc main_arg15) : FVec Ideal S2x1024x1024 .f32)) shapeCasts_S16x2048x1024_S32768x1024 := by
  rfl

theorem sHeads_apply (o : FVec Ideal S16x2048x4x128 .f32) (b : Fin 16) (s : Fin 2048) (h : Fin 4) (k : Fin 128) :
    sHeads o (ix4 b s h k) = o (ix4 b s h k) * Ideal.rsqrt (Ideal.div (∑ j, o (ix4 b s h j) * o (ix4 b s h j)) c128 + eps6) := by
  pointwise [sHeads, c128, eps6]

theorem sGla_apply (o : FVec Ideal S16x2048x512 .f32) (g : FVec Ideal S512 .f32) (r : FVec Ideal S16x2048x512 .bf16) (b : Fin 16) (s : Fin 2048) (k : Fin 512) :
    sGla o g r (ix3 b s k) = o (ix3 b s k) * g (ix1 k) * (r (ix3 b s k) * Ideal.logistic (r (ix3 b s k))) := by
  pointwise [sGla, Ideal.logistic]

theorem sGroups_apply (y : FVec Ideal S16x2048x8x64 .f32) (b : Fin 16) (s : Fin 2048) (h : Fin 8) (k : Fin 64) :
    sGroups y (ix4 b s h k) = lnBy (Ideal.div (∑ j, y (ix4 b s h j)) c64) (fun j => y (ix4 b s h j)) (y (ix4 b s h k)) := by
  pointwise [sGroups, lnBy, c64, epsL]

theorem sRwkv_apply (y : FVec Ideal S16x2048x512 .f32) (g b : FVec Ideal S512 .f32) (u v : FVec Ideal S16x2048x512 .f32) (d : Fin 16) (s : Fin 2048) (k : Fin 512) :
    sRwkv y g b u v (ix3 d s k) = (y (ix3 d s k) * g (ix1 k) + b (ix1 k) + u (ix3 d s k)) * v (ix3 d s k) := by
  pointwise [sRwkv]

theorem sGates_apply (z : FVec Ideal S32768x3072 .bf16) (n : Fin 32768) (k : Fin 3072) : sGates z (ix2 n k) = Ideal.logistic (z (ix2 n k)) := by
  pointwise [sGates, Ideal.logistic]

theorem sMix_apply (z : FVec Ideal S16x2048x3x1024 .f32) (ya yb yc : FVec Ideal S16x2048x512 .f32) (pa pb pc : FVec Ideal S2x512x1024 .f32) (b : Fin 16) (s : Fin 2048) (j : Fin 1024) :
    sMix z ya yb yc pa pb pc (ix3 b s j) = z (ix4 b s 0 j) * (∑ k, ya (ix3 b s k) * pa (ix3 0 k j)) + z (ix4 b s 1 j) * (∑ k, yb (ix3 b s k) * pb (ix3 0 k j))
      + z (ix4 b s 2 j) * (∑ k, yc (ix3 b s k) * pc (ix3 0 k j)) := by
  pointwise [sMix]

theorem sOut_apply (x mix : FVec Ideal S16x2048x1024 .f32) (wo : FVec Ideal S2x1024x1024 .f32) (b : Fin 16) (s : Fin 2048) (l : Fin 1024) :
    sOut x mix wo (ix3 b s l) = x (ix3 b s l) + ∑ j, mix (ix3 b s j) * wo (ix3 0 j l) := by
  pointwise [sOut]

/-- The heads' norm read back as rows of 512 channels. -/
theorem heads_at (o : FVec Ideal S16x2048x512 .f32) (b : Fin 16) (s : Fin 2048) (k : Fin 512) :
    (shapeCast S16x2048x512 (sHeads (shapeCast S16x2048x4x128 o shapeCasts_S16x2048x512_S16x2048x4x128)) shapeCasts_S16x2048x4x128_S16x2048x512 : FVec Ideal S16x2048x512 .f32) (ix3 b s k)
      = headNorm (fun j => o (ix3 b s j)) k := by
  have hs : ∀ (h : Fin 4) (j : Fin 128) (i : Fin 512), i.val = 128 * h.val + j.val →
      (shapeCast S16x2048x4x128 o shapeCasts_S16x2048x512_S16x2048x4x128 : FVec Ideal S16x2048x4x128 .f32) (ix4 b s h j) = o (ix3 b s i) := by
    intro h j i hi
    refine shapeCast_apply _ _ _ _ ?_
    rw [Shape.rowMajor_val_three, Shape.rowMajor_val_four]
    simp [ix3, ix4]
    omega
  refine (shapeCast_apply _ _ (ix3 b s k) (ix4 b s ⟨k.val / 128, by omega⟩ ⟨k.val % 128, by omega⟩) ?_).trans ?_
  · rw [Shape.rowMajor_val_three, Shape.rowMajor_val_four]
    simp [ix3, ix4]
    omega
  rw [sHeads_apply, hs _ _ k (by simp; omega)]
  unfold headNorm
  have e : ∀ j : Fin 128, (shapeCast S16x2048x4x128 o shapeCasts_S16x2048x512_S16x2048x4x128 : FVec Ideal S16x2048x4x128 .f32) (ix4 b s ⟨k.val / 128, by omega⟩ j) = o (ix3 b s (hd k j)) :=
    fun j => hs _ j _ rfl
  simp only [e]

/-- The groups' norm read back as rows of 512 channels. -/
theorem groups_at (o : FVec Ideal S16x2048x512 .f32) (b : Fin 16) (s : Fin 2048) (k : Fin 512) :
    (shapeCast S16x2048x512 (sGroups (shapeCast S16x2048x8x64 o shapeCasts_S16x2048x512_S16x2048x8x64)) shapeCasts_S16x2048x8x64_S16x2048x512 : FVec Ideal S16x2048x512 .f32) (ix3 b s k)
      = lnBy (mean (fun j => o (ix3 b s j)) k) (fun j => o (ix3 b s (gp k j))) (o (ix3 b s k)) := by
  have hs : ∀ (h : Fin 8) (j : Fin 64) (i : Fin 512), i.val = 64 * h.val + j.val →
      (shapeCast S16x2048x8x64 o shapeCasts_S16x2048x512_S16x2048x8x64 : FVec Ideal S16x2048x8x64 .f32) (ix4 b s h j) = o (ix3 b s i) := by
    intro h j i hi
    refine shapeCast_apply _ _ _ _ ?_
    rw [Shape.rowMajor_val_three, Shape.rowMajor_val_four]
    simp [ix3, ix4]
    omega
  refine (shapeCast_apply _ _ (ix3 b s k) (ix4 b s ⟨k.val / 64, by omega⟩ ⟨k.val % 64, by omega⟩) ?_).trans ?_
  · rw [Shape.rowMajor_val_three, Shape.rowMajor_val_four]
    simp [ix3, ix4]
    omega
  rw [sGroups_apply, hs _ _ k (by simp; omega)]
  unfold mean
  have e : ∀ j : Fin 64, (shapeCast S16x2048x8x64 o shapeCasts_S16x2048x512_S16x2048x8x64 : FVec Ideal S16x2048x8x64 .f32) (ix4 b s ⟨k.val / 64, by omega⟩ j) = o (ix3 b s (gp k j)) :=
    fun j => hs _ j _ rfl
  simp only [e]

/-- Rows of 512 channels counted by batch and position. -/
theorem rows_at {e : FTy} (o : FVec Ideal S32768x512 e) (b : Fin 16) (s : Fin 2048) (k : Fin 512) (n : Fin 32768) (hn : n.val = 2048 * b.val + s.val) :
    (shapeCast S16x2048x512 o shapeCasts_S32768x512_S16x2048x512 : FVec Ideal S16x2048x512 e) (ix3 b s k) = o (ix2 n k) := by
  refine shapeCast_apply _ _ _ _ ?_
  rw [Shape.rowMajor_val_three, Shape.rowMajor_val_two]
  simp [ix3, ix2]
  omega

/-- The gates counted by batch, position and branch. -/
theorem gates_at (o : FVec Ideal S32768x3072 .f32) (b : Fin 16) (s : Fin 2048) (q : Fin 3) (k : Fin 1024) (n : Fin 32768) (hn : n.val = 2048 * b.val + s.val) (i : Fin 3072)
    (hi : i.val = 1024 * q.val + k.val) :
    (shapeCast S16x2048x3x1024 o shapeCasts_S32768x3072_S16x2048x3x1024 : FVec Ideal S16x2048x3x1024 .f32) (ix4 b s q k) = o (ix2 n i) := by
  refine shapeCast_apply _ _ _ _ ?_
  rw [Shape.rowMajor_val_four, Shape.rowMajor_val_two]
  simp [ix4, ix2]
  omega

/-- The last two stages on a row, from the branches' rows. -/
theorem mix_row (x : FVec Ideal S16x2048x1024 .f32) (wo : FVec Ideal S2x1024x1024 .f32) (z : FVec Ideal S16x2048x3x1024 .f32) (ya yb yc : FVec Ideal S16x2048x512 .f32)
    (pa pb pc : FVec Ideal S2x512x1024 .f32) (b : Fin 16) (s : Fin 2048) (l : Fin 1024) (Z : Fin 3072 → EReal) (A B C : Fin 512 → EReal)
    (h0 : ∀ j : Fin 1024, z (ix4 b s 0 j) = Ideal.logistic (Z ⟨j.val, by omega⟩)) (h1 : ∀ j : Fin 1024, z (ix4 b s 1 j) = Ideal.logistic (Z ⟨1024 + j.val, by omega⟩))
    (h2 : ∀ j : Fin 1024, z (ix4 b s 2 j) = Ideal.logistic (Z ⟨2048 + j.val, by omega⟩))
    (hA : ∀ k, ya (ix3 b s k) = A k) (hB : ∀ k, yb (ix3 b s k) = B k) (hC : ∀ k, yc (ix3 b s k) = C k) :
    sOut x (sMix z ya yb yc pa pb pc) wo (ix3 b s l)
      = row (fun k => x (ix3 b s k)) A B C Z (fun k j => pa (ix3 0 k j)) (fun k j => pb (ix3 0 k j)) (fun k j => pc (ix3 0 k j)) (fun k j => wo (ix3 0 k j)) l := by
  rw [sOut_apply]
  simp only [sMix_apply, h0, h1, h2, hA, hB, hC]
  rfl

/-- A layer's row of 512 gains. -/
theorem gain_at (g : FVec Ideal S2x512 .f32) (k : Fin 512) :
    (shapeCast S512 (extractStridedSlice S1x512 ![0, 0] g slices_S2x512_S1x512_0_0) shapeCasts_S1x512_S512 : FVec Ideal S512 .f32) (ix1 k) = g (ix2 0 k) := by
  pointwise

/-- The reference's result at an index: the merge of that row of the arguments. -/
theorem res_apply (m : (ℓ : Loc nD τ sig) → Buf (Elt Ideal) ℓ) (c : Dev nD) (n : Fin 32768) (l : Fin 1024) :
    (res_out0 m c : FVec Ideal S32768x1024 .f32) (ix2 n l)
      = tokRow (fun b s k => (m ((c.tc : Thread nD τ).loc main_arg0) : FVec Ideal S16x2048x1024 .f32) (ix3 b s k)) (fun b s k => (m ((c.tc : Thread nD τ).loc main_arg1) : FVec Ideal S16x2048x512 .bf16) (ix3 b s k)) (fun b s k => (m ((c.tc : Thread nD τ).loc main_arg2) : FVec Ideal S16x2048x512 .bf16) (ix3 b s k)) (fun b s k => (m ((c.tc : Thread nD τ).loc main_arg4) : FVec Ideal S16x2048x512 .bf16) (ix3 b s k)) (fun b s k => (m ((c.tc : Thread nD τ).loc main_arg5) : FVec Ideal S16x2048x512 .bf16) (ix3 b s k)) (fun b s k => (m ((c.tc : Thread nD τ).loc main_arg6) : FVec Ideal S16x2048x512 .bf16) (ix3 b s k)) (fun n k => (m ((c.tc : Thread nD τ).loc main_arg3) : FVec Ideal S32768x1664 .bf16) (ix2 n k)) (fun n k => (m ((c.tc : Thread nD τ).loc main_arg7) : FVec Ideal S32768x1536 .bf16) (ix2 n k)) (fun n k => (m ((c.tc : Thread nD τ).loc main_arg8) : FVec Ideal S32768x3072 .bf16) (ix2 n k)) (fun k => (m ((c.tc : Thread nD τ).loc main_arg9) : FVec Ideal S2x512 .f32) (ix2 0 k)) (fun k => (m ((c.tc : Thread nD τ).loc main_arg10) : FVec Ideal S2x512 .f32) (ix2 0 k)) (fun k => (m ((c.tc : Thread nD τ).loc main_arg11) : FVec Ideal S2x512 .f32) (ix2 0 k)) (fun k j => (m ((c.tc : Thread nD τ).loc main_arg12) : FVec Ideal S2x512x1024 .f32) (ix3 0 k j)) (fun k j => (m ((c.tc : Thread nD τ).loc main_arg13) : FVec Ideal S2x512x1024 .f32) (ix3 0 k j)) (fun k j => (m ((c.tc : Thread nD τ).loc main_arg14) : FVec Ideal S2x512x1024 .f32) (ix3 0 k j)) (fun k j => (m ((c.tc : Thread nD τ).loc main_arg15) : FVec Ideal S2x1024x1024 .f32) (ix3 0 k j))
          ⟨n.val / 2048, Nat.div_lt_of_lt_mul n.isLt⟩ ⟨n.val % 2048, Nat.mod_lt _ (by decide)⟩ n l := by
  rw [res_eq]
  refine (shapeCast_apply _ _ (ix2 n l) (ix3 ⟨n.val / 2048, Nat.div_lt_of_lt_mul n.isLt⟩ ⟨n.val % 2048, Nat.mod_lt _ (by decide)⟩ l) ?_).trans ?_
  · rw [Shape.rowMajor_val_three, Shape.rowMajor_val_two]
    simp [ix3, ix2]
    omega
  obtain ⟨b, hb⟩ : ∃ b : Fin 16, b = ⟨n.val / 2048, Nat.div_lt_of_lt_mul n.isLt⟩ := ⟨_, rfl⟩
  obtain ⟨s, hs⟩ : ∃ s : Fin 2048, s = ⟨n.val % 2048, Nat.mod_lt _ (by decide)⟩ := ⟨_, rfl⟩
  rw [← hb, ← hs]
  have hn : n.val = 2048 * b.val + s.val := by
    rw [hb, hs]
    exact (Nat.div_add_mod _ _).symm
  unfold tokRow
  refine mix_row _ _ _ _ _ _ _ _ _ b s l _ _ _ _
    (fun j => (gates_at _ b s 0 j n hn ⟨j.val, by omega⟩ (by simp)).trans (sGates_apply _ _ _))
    (fun j => (gates_at _ b s 1 j n hn ⟨1024 + j.val, by omega⟩ (by simp)).trans (sGates_apply _ _ _))
    (fun j => (gates_at _ b s 2 j n hn ⟨2048 + j.val, by omega⟩ (by simp)).trans (sGates_apply _ _ _))
    (fun k => ?_) (fun _ => rfl) (fun k => ?_)
  · rw [sGla_apply, heads_at, gain_at, rows_at _ b s k n hn]
    pointwise [glaRow]
  · rw [sRwkv_apply, groups_at, gain_at, gain_at, rows_at _ b s k n hn, rows_at _ b s k n hn]
    pointwise [rwkvRow]

end Cert.Reference4Ideal.Value
-- ==== Proof.Merge.Claims.lean ====
/-
  The merge against its reference: the reference's frame, and the two programs' equal results.
-/
module

public import proofs.«01_k».proof.Defs
public import proofs.«01_k».proof.Proof.Gen.Kernel4Ideal
public import proofs.«01_k».proof.Proof.Gen.Reference4Ideal
public import proofs.«01_k».proof.Proof.Merge.Kernel
public import proofs.«01_k».proof.Proof.Merge.Reference
public import Idealize.ShloMosaic.Adequacy
public import Idealize.ShloMosaic.Init

@[expose] public section

noncomputable section

namespace Cert.MergeClaims

open Idealize.ShloMosaic Idealize.ShloMosaic.TcCoe Idealize.SL.Sem

/-- The reference runs and leaves its arguments, and every semaphore counter at zero. -/
theorem frame_reference : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- From equal arguments the two programs end with equal results. -/
theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => Cert.Kernel4Ideal.Value.G (m ((c.tc : Thread _ _).loc Cert.Kernel4Ideal.main_arg0)) (m ((c.tc : Thread _ _).loc Cert.Kernel4Ideal.main_arg1))
    (m ((c.tc : Thread _ _).loc Cert.Kernel4Ideal.main_arg2)) (m ((c.tc : Thread _ _).loc Cert.Kernel4Ideal.main_arg3))
    (m ((c.tc : Thread _ _).loc Cert.Kernel4Ideal.main_arg4)) (m ((c.tc : Thread _ _).loc Cert.Kernel4Ideal.main_arg5))
    (m ((c.tc : Thread _ _).loc Cert.Kernel4Ideal.main_arg6)) (m ((c.tc : Thread _ _).loc Cert.Kernel4Ideal.main_arg7))
    (m ((c.tc : Thread _ _).loc Cert.Kernel4Ideal.main_arg8)) (m ((c.tc : Thread _ _).loc Cert.Kernel4Ideal.main_arg9))
    (m ((c.tc : Thread _ _).loc Cert.Kernel4Ideal.main_arg10)) (m ((c.tc : Thread _ _).loc Cert.Kernel4Ideal.main_arg11))
    (m ((c.tc : Thread _ _).loc Cert.Kernel4Ideal.main_arg12)) (m ((c.tc : Thread _ _).loc Cert.Kernel4Ideal.main_arg13))
    (m ((c.tc : Thread _ _).loc Cert.Kernel4Ideal.main_arg14)) (m ((c.tc : Thread _ _).loc Cert.Kernel4Ideal.main_arg15)), ?_, ?_⟩
  · exact (θ_run Cert.Kernel4Ideal.defs _ _).mono (fun _ h c => ⟨(h c).1.trans (Cert.Kernel4Ideal.Value.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨e0, e1, e2, e3, e4, e5, e6, e7, e8, e9, e10, e11, e12, e13, e14, e15⟩ := hagree c
    beta_reduce
    rw [← e0, ← e1, ← e2, ← e3, ← e4, ← e5, ← e6, ← e7, ← e8, ← e9, ← e10, ← e11, ← e12, ← e13, ← e14, ← e15]
    funext i
    exact (congrArg _ (show i = ix2 (i 0) (i 1) from by funext a; fin_cases a <;> rfl)).trans (Cert.Reference4Ideal.Value.res_apply m' c (i 0) (i 1))

end Cert.MergeClaims

end
-- ==== Proof.FfnOne.Kernel.lean ====
/-
  What the feed-forward call leaves: a tile of 512 tokens, in its two halves, is row by row the sum of the token and the layer's
  output.
-/
module

public import proofs.«01_k».proof.Proof.Gen.Kernel5Ideal.Value
public import Idealize.ShloMosaic.Lib.Pipeline.ValueKit
public import Idealize.ShloMosaic.Lib.Pointwise
public import proofs.«01_k».proof.Proof.Ffn.Spec

@[expose] public section
set_option maxRecDepth 16384
noncomputable section
namespace Cert.Kernel5Ideal.Value
open Cert.Kernel5Ideal Cert.Kernel5Ideal.Gen Idealize.ShloMosaic Idealize.ShloMosaic.TcCoe Idealize.SL.Sem
open Cert.FfnSpec

/-- The first half block's payload at an index, -/
theorem pay7_apply (v0 : Vec Ideal S256x1024 .f32) (v2 : Vec Ideal S1x1x1024 .f32) (v34 v37 : Vec Ideal S1x1024x2816 .bf16) (v56 : Vec Ideal S1x2816x1024 .bf16) (r : Fin 256) (l : Fin 1024) :
    k0_pay7 (F := Ideal) (k0_pay2 v0) (k0_pay3 v0 v2) (k0_pay6 v0 v2 v34) v37 v56 (ix2 r l)
      = layer (fun k => v0 (ix2 r k)) (fun k => v2 (ix3 0 0 k)) (fun k f => v34 (ix3 0 k f)) (fun k f => v37 (ix3 0 k f))
          (fun f k => v56 (ix3 0 f k)) l := by
  pointwise [k0_pay7, k0_pay2, k0_pay3, k0_pay6]
  simp only [gate_eq]
  rfl

/-- and the second one's. -/
theorem pay1_apply (v0 : Vec Ideal S256x1024 .f32) (v2 : Vec Ideal S1x1x1024 .f32) (v34 v37 : Vec Ideal S1x1024x2816 .bf16) (v56 : Vec Ideal S1x2816x1024 .bf16) (r : Fin 256) (l : Fin 1024) :
    k0_pay1 (F := Ideal) (k0_pay4 v0) (k0_pay8 (k0_pay5 v0 v2) v34 v37) v56 (ix2 r l)
      = layer (fun k => v0 (ix2 r k)) (fun k => v2 (ix3 0 0 k)) (fun k f => v34 (ix3 0 k f)) (fun k f => v37 (ix3 0 k f))
          (fun f k => v56 (ix3 0 f k)) l := by
  pointwise [k0_pay1, k0_pay4, k0_pay5, k0_pay8]
  simp only [gate_eq]
  rfl

theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![0, 0] ∧ win0_6.index t = ![t.val, 0] :=
  (by decide +kernel : ∀ t : Fin grid0.N, _)

/-- The array that the layer leaves: row by row the layer's function of the arguments' rows. -/
def G (x : FVec Ideal S16x2048x1024 .f32) (g : FVec Ideal S2x1024 .f32) (wg wu : FVec Ideal S2x1024x2816 .f32) (wd : FVec Ideal S2x2816x1024 .f32) : FVec Ideal S32768x1024 .f32 := fun i =>
  layer (fun k => x (ix3 ⟨(i 0).val / 2048, by have := (i 0).isLt; exact Nat.div_lt_of_lt_mul this⟩ ⟨(i 0).val % 2048, Nat.mod_lt _ (by decide)⟩ k)) (fun k => g (ix2 0 k)) (fun k f => wg (ix3 0 k f))
    (fun k f => wu (ix3 0 k f)) (fun f k => wd (ix3 0 f k)) (i 1)

variable (m : (ℓ : Loc nD τ sig) → Buf (Elt Ideal) ℓ)

/-- Row `r` of block `t` of the activations is row `512 t + r` of the array. -/
theorem blk0 (c : Dev nD) (t : Fin cfg0.N) (r : Fin 512) (k : Fin 1024) (b : Fin 16) (s : Fin 2048) (h : 2048 * b.val + s.val = 512 * t.val + r.val) :
    (iblk m c 0 t : FVec Ideal S512x1024 .f32) (ix2 r k) = (m ((c : Thread nD τ).loc main_arg0) : FVec Ideal S16x2048x1024 .f32) (ix3 b s k) := by
  blk_ext! [iblk, V, idx t]

theorem blk1 (c : Dev nD) (t : Fin cfg0.N) (k : Fin 1024) :
    (iblk m c 1 t : FVec Ideal S1x1x1024 .f32) (ix3 0 0 k) = (m ((c : Thread nD τ).loc main_arg1) : FVec Ideal S2x1024 .f32) (ix2 0 k) := by
  blk_ext! [iblk, V, idx t]

theorem blk2 (c : Dev nD) (t : Fin cfg0.N) (k : Fin 1024) (f : Fin 2816) :
    (iblk m c 2 t : FVec Ideal S1x1024x2816 .bf16) (ix3 0 k f) = (m ((c : Thread nD τ).loc main_arg2) : FVec Ideal S2x1024x2816 .f32) (ix3 0 k f) := by
  blk_ext! [iblk, V, idx t]

theorem blk3 (c : Dev nD) (t : Fin cfg0.N) (k : Fin 1024) (f : Fin 2816) :
    (iblk m c 3 t : FVec Ideal S1x1024x2816 .bf16) (ix3 0 k f) = (m ((c : Thread nD τ).loc main_arg3) : FVec Ideal S2x1024x2816 .f32) (ix3 0 k f) := by
  blk_ext! [iblk, V, idx t]

theorem blk4 (c : Dev nD) (t : Fin cfg0.N) (f : Fin 2816) (k : Fin 1024) :
    (iblk m c 4 t : FVec Ideal S1x2816x1024 .bf16) (ix3 0 f k) = (m ((c : Thread nD τ).loc main_arg4) : FVec Ideal S2x2816x1024 .f32) (ix3 0 f k) := by
  blk_ext! [iblk, V, idx t]

theorem emb0 (t : Fin cfg0.N) (y : S512x1024.Idx) : (((win0_6.blk t).view.emb y 0 : Fin 32768) : ℕ) = 512 * t.val + (y 0).val := by
  blk_simp [idx t]
  try omega

theorem emb1 (t : Fin cfg0.N) (y : S512x1024.Idx) : (((win0_6.blk t).view.emb y 1 : Fin 1024) : ℕ) = (y 1).val := by
  blk_simp [idx t]
  try omega

/-- The layer on row `y 0` of the blocks of point `t` is `G` where the block's index `y` sits in the array. -/
theorem row_block (c : Dev nD) (t : Fin cfg0.N) (y : S512x1024.Idx) :
    layer (fun k => (iblk m c 0 t : FVec Ideal S512x1024 .f32) (ix2 (y 0) k)) (fun k => (iblk m c 1 t : FVec Ideal S1x1x1024 .f32) (ix3 0 0 k))
        (fun k f => (iblk m c 2 t : FVec Ideal S1x1024x2816 .bf16) (ix3 0 k f)) (fun k f => (iblk m c 3 t : FVec Ideal S1x1024x2816 .bf16) (ix3 0 k f))
        (fun f k => (iblk m c 4 t : FVec Ideal S1x2816x1024 .bf16) (ix3 0 f k)) (y 1)
      = G (m ((c : Thread nD τ).loc main_arg0)) (m ((c : Thread nD τ).loc main_arg1)) (m ((c : Thread nD τ).loc main_arg2))
          (m ((c : Thread nD τ).loc main_arg3)) (m ((c : Thread nD τ).loc main_arg4)) ((win0_6.blk t).view.emb y) := by
  refine layer_congr (fun k => ?_) (fun k => blk1 m c t k) (fun k f => blk2 m c t k f) (fun k f => blk3 m c t k f) (fun f k => blk4 m c t f k) (Fin.ext (emb1 t y).symm)
  refine blk0 m c t (y 0) k _ _ ?_
  have h := emb0 t y
  show 2048 * (((win0_6.blk t).view.emb y 0 : Fin 32768).val / 2048) + ((win0_6.blk t).view.emb y 0 : Fin 32768).val % 2048 = _
  rw [Nat.div_add_mod, h]

/-- A load of the upper half block reads 256 rows further on, -/
theorem ld_hi (X : Vec Ideal S512x1024 .f32) (r : Fin 256) (r' : Fin 512) (h : r'.val = 256 + r.val) (k : Fin 1024) :
    (View.ld X r0_2 : Vec Ideal S256x1024 .f32) (ix2 r k) = X (ix2 r' k) := by
  pointwise
  exact congrArg X (by blk_ext [])

/-- and a load of the lower one reads the row itself. -/
theorem ld_lo (X : Vec Ideal S512x1024 .f32) (r : Fin 256) (r' : Fin 512) (h : r'.val = r.val) (k : Fin 1024) :
    (View.ld X r0_0 : Vec Ideal S256x1024 .f32) (ix2 r k) = X (ix2 r' k) := by
  pointwise
  exact congrArg X (by blk_ext [])

/-- A load of a whole block is the block. -/
theorem ld1 (X : Vec Ideal S1x1x1024 .f32) : View.ld X r0_1 = X := View.ld_unit_lit (h := by decide) ..
theorem ld3 (X : Vec Ideal S1x1024x2816 .bf16) : View.ld X r0_3 = X := View.ld_unit_lit (h := by decide) ..
theorem ld4 (X : Vec Ideal S1x2816x1024 .bf16) : View.ld X r0_4 = X := View.ld_unit_lit (h := by decide) ..

/-- The result array after the run. -/
theorem final (c : Dev nD) : (dats m 0 c).arrAt 6 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  unfold out0_6
  refine Eq.trans ?_ (row_block m c t y)
  canon_tiles x h
  · refine (congrArg _ (show x = ix2 (x 0) (x 1) from by funext a; fin_cases a <;> rfl)).trans ((pay1_apply _ _ _ _ _ (x 0) (x 1)).trans
      (layer_congr (fun k => ld_hi _ _ _ h0 k) (fun k => congrFun (ld1 _) _) (fun k f => congrFun (ld3 _) _) (fun k f => congrFun (ld3 _) _)
        (fun k f => congrFun (ld4 _) _) (Fin.ext h1.symm)))
  · refine (congrArg _ (show x = ix2 (x 0) (x 1) from by funext a; fin_cases a <;> rfl)).trans ((pay7_apply _ _ _ _ _ (x 0) (x 1)).trans
      (layer_congr (fun k => ld_lo _ _ _ h0 k) (fun k => congrFun (ld1 _) _) (fun k f => congrFun (ld3 _) _) (fun k f => congrFun (ld3 _) _)
        (fun k f => congrFun (ld4 _) _) (Fin.ext h1.symm)))

end Cert.Kernel5Ideal.Value
-- ==== Proof.FfnOne.Reference.lean ====
/-
  What the feed-forward's reference computes, entry by entry.
-/
module

public import proofs.«01_k».proof.Proof.Gen.Reference5Ideal.Run
public import Idealize.ShloMosaic.Lib.Pipeline.ValueKit
public import Idealize.ShloMosaic.Lib.Pointwise
public import proofs.«01_k».proof.Proof.Ffn.Spec

@[expose] public section
set_option maxRecDepth 16384
noncomputable section
namespace Cert.Reference5Ideal.Value
open Cert.Reference5Ideal Cert.Reference5Ideal.Gen Idealize.ShloMosaic Idealize.ShloMosaic.TcCoe Idealize.SL.Sem
open Cert.FfnSpec

/-- The reference's normalisation of the rows of `x` with the gains `g`. -/
def rNorm (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The reference's feed-forward of the rows `h`, added to the rows of `x`. -/
def rMid (x h : FVec Ideal S16x2048x1024 .f32) (wg wu : FVec Ideal S2x1024x2816 .f32) (wd : FVec Ideal S2x2816x1024 .f32) : FVec Ideal S16x2048x1024 .f32 :=
  have a : FVec Ideal S16x2048x2816 .f32 := Host.dotGeneral dot_S16x2048x1024_S1024x2816_S16x2048x2816_2_0_01_1_n_n none h (shapeCast _ (extractStridedSlice S1x1024x2816 ![0, 0, 0] wg slices_S2x1024x2816_S1x1024x2816_0_0_0) shapeCasts_S1x1024x2816_S1024x2816)
  addf x (mulf (broadcastInDim S16x2048x1024 ![] bcast_S_S16x2048x1024 (constant S_ .f32 0x3F000000#32)) (Host.dotGeneral dot_S16x2048x2816_S2816x1024_S16x2048x1024_2_0_01_1_n_n none (mulf (mulf a (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf a))))) (Host.dotGeneral dot_S16x2048x1024_S1024x2816_S16x2048x2816_2_0_01_1_n_n none h (shapeCast _ (extractStridedSlice S1x1024x2816 ![0, 0, 0] wu slices_S2x1024x2816_S1x1024x2816_0_0_0) shapeCasts_S1x1024x2816_S1024x2816))) (shapeCast _ (extractStridedSlice S1x2816x1024 ![0, 0, 0] wd slices_S2x2816x1024_S1x2816x1024_0_0_0) shapeCasts_S1x2816x1024_S2816x1024)))

/-- The reference's result is the second of the first. -/
theorem res_eq (m : (ℓ : Loc nD τ sig) → Buf (Elt Ideal) ℓ) (c : Dev nD) :
    res_out0 m c = shapeCast S32768x1024 (rMid (m ((c.tc : Thread nD τ).loc main_arg0)) (rNorm (m ((c.tc : Thread nD τ).loc main_arg0))
        (shapeCast _ (extractStridedSlice S1x1024 ![0, 0] (m ((c.tc : Thread nD τ).loc main_arg1)) slices_S2x1024_S1x1024_0_0) shapeCasts_S1x1024_S1024))
        (m ((c.tc : Thread nD τ).loc main_arg2)) (m ((c.tc : Thread nD τ).loc main_arg3)) (m ((c.tc : Thread nD τ).loc main_arg4))) shapeCasts_S16x2048x1024_S32768x1024 := by
  rfl

theorem rNorm_apply (x : FVec Ideal S16x2048x1024 .f32) (g : FVec Ideal S1024 .f32) (b : Fin 16) (s : Fin 2048) (l : Fin 1024) :
    rNorm x g (ix3 b s l) = rmsn (fun k => x (ix3 b s k)) (fun k => g (ix1 k)) l := by
  pointwise [rNorm, rmsn]

theorem rMid_apply (x h : FVec Ideal S16x2048x1024 .f32) (wg wu : FVec Ideal S2x1024x2816 .f32) (wd : FVec Ideal S2x2816x1024 .f32) (b : Fin 16) (s : Fin 2048) (l : Fin 1024) :
    rMid x h wg wu wd (ix3 b s l) = mid (fun k => x (ix3 b s k)) (fun k => h (ix3 b s k)) (fun k f => wg (ix3 0 k f)) (fun k f => wu (ix3 0 k f)) (fun f k => wd (ix3 0 f k)) l := by
  pointwise [rMid, mid, Ideal.logistic]

/-- The reference's result at an index: the layer on that row of the arguments. -/
theorem res_apply (m : (ℓ : Loc nD τ sig) → Buf (Elt Ideal) ℓ) (c : Dev nD) (n : Fin 32768) (l : Fin 1024) :
    (res_out0 m c : FVec Ideal S32768x1024 .f32) (ix2 n l)
      = layer (fun k => (m ((c.tc : Thread nD τ).loc main_arg0) : FVec Ideal S16x2048x1024 .f32) (ix3 ⟨n.val / 2048, Nat.div_lt_of_lt_mul n.isLt⟩ ⟨n.val % 2048, Nat.mod_lt _ (by decide)⟩ k))
          (fun k => (m ((c.tc : Thread nD τ).loc main_arg1) : FVec Ideal S2x1024 .f32) (ix2 0 k))
          (fun k f => (m ((c.tc : Thread nD τ).loc main_arg2) : FVec Ideal S2x1024x2816 .f32) (ix3 0 k f))
          (fun k f => (m ((c.tc : Thread nD τ).loc main_arg3) : FVec Ideal S2x1024x2816 .f32) (ix3 0 k f))
          (fun f k => (m ((c.tc : Thread nD τ).loc main_arg4) : FVec Ideal S2x2816x1024 .f32) (ix3 0 f k)) l := by
  rw [res_eq]
  refine (shapeCast_apply _ _ (ix2 n l) (ix3 ⟨n.val / 2048, Nat.div_lt_of_lt_mul n.isLt⟩ ⟨n.val % 2048, Nat.mod_lt _ (by decide)⟩ l) ?_).trans ?_
  · rw [Shape.rowMajor_val_three, Shape.rowMajor_val_two]
    simp [ix3, ix2]
    omega
  unfold layer
  rw [rMid_apply]
  simp only [rNorm_apply]
  pointwise

end Cert.Reference5Ideal.Value
-- ==== Proof.FfnOne.Claims.lean ====
/-
  The feed-forward call against its reference: the reference's frame, and the two programs' equal results.
-/
module

public import proofs.«01_k».proof.Defs
public import proofs.«01_k».proof.Proof.Gen.Kernel5Ideal
public import proofs.«01_k».proof.Proof.Gen.Reference5Ideal
public import proofs.«01_k».proof.Proof.FfnOne.Kernel
public import proofs.«01_k».proof.Proof.FfnOne.Reference
public import Idealize.ShloMosaic.Adequacy
public import Idealize.ShloMosaic.Init

@[expose] public section

noncomputable section

namespace Cert.FfnOneClaims

open Idealize.ShloMosaic Idealize.ShloMosaic.TcCoe Idealize.SL.Sem

/-- The reference runs and leaves its arguments, and every semaphore counter at zero. -/
theorem frame_reference : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- From equal arguments the two programs end with equal results. -/
theorem algebraic : Cert.algebraic_Kernel5Ideal_Reference5Ideal (hKernel5Ideal := Cert.Kernel5Ideal.Gen.facts) (hReference5Ideal := Cert.Reference5Ideal.Gen.facts) := by
  intro m ρ m' ρ' _ hagree
  refine ⟨fun c => Cert.Kernel5Ideal.Value.G (m ((c.tc : Thread _ _).loc Cert.Kernel5Ideal.main_arg0)) (m ((c.tc : Thread _ _).loc Cert.Kernel5Ideal.main_arg1))
    (m ((c.tc : Thread _ _).loc Cert.Kernel5Ideal.main_arg2)) (m ((c.tc : Thread _ _).loc Cert.Kernel5Ideal.main_arg3))
    (m ((c.tc : Thread _ _).loc Cert.Kernel5Ideal.main_arg4)), ?_, ?_⟩
  · exact (θ_run Cert.Kernel5Ideal.defs _ _).mono (fun _ h c => ⟨(h c).1.trans (Cert.Kernel5Ideal.Value.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨e0, e1, e2, e3, e4, e5⟩ := hagree c
    beta_reduce
    rw [← e0, ← e1, ← e2, ← e3, ← e4]
    funext i
    exact (congrArg _ (show i = ix2 (i 0) (i 1) from by funext a; fin_cases a <;> rfl)).trans (Cert.Reference5Ideal.Value.res_apply m' c (i 0) (i 1))

end Cert.FfnOneClaims

end
-- ==== Proof.lean ====
/-
  The claims: the calls of the kernel run without a fault and leave their arguments as they were, and what they
  compute is what the layer's own lines compute.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Frame
public import proofs.«01_k».proof.Proof.Ffn.Claims
public import proofs.«01_k».proof.Proof.Inproj.Claims
public import proofs.«01_k».proof.Proof.Gen.Kernel4
public import proofs.«01_k».proof.Proof.Gen.Kernel4.Frame
public import proofs.«01_k».proof.Proof.Merge.Claims
public import proofs.«01_k».proof.Proof.Gen.Kernel5
public import proofs.«01_k».proof.Proof.Gen.Kernel5.Frame
public import proofs.«01_k».proof.Proof.FfnOne.Claims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ,
  fun m ρ _ => Cert.KernelIdeal.Gen.frame m ρ,
  fun m ρ _ => Cert.Kernel2.Gen.frame m ρ,
  fun m ρ _ => Cert.Kernel2Ideal.Gen.frame m ρ,
  Cert.FfnClaims.frame_reference,
  Cert.InprojClaims.frame_kernel,
  Cert.InprojClaims.frame_ideal,
  Cert.InprojClaims.frame_reference,
  fun m ρ _ => Cert.Kernel4.Gen.frame m ρ,
  fun m ρ _ => Cert.Kernel4Ideal.Gen.frame m ρ,
  Cert.MergeClaims.frame_reference,
  fun m ρ _ => Cert.Kernel5.Gen.frame m ρ,
  fun m ρ _ => Cert.Kernel5Ideal.Gen.frame m ρ,
  Cert.FfnOneClaims.frame_reference,
  trivial,
  trivial,
  Cert.FfnClaims.algebraic,
  trivial,
  Cert.InprojClaims.algebraic,
  trivial,
  Cert.MergeClaims.algebraic,
  trivial,
  Cert.FfnOneClaims.algebraic⟩

end Cert.Proof

end
